-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_permutation [hPre_permutation : Cert.Pre_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutation [hPre_permutation : Cert.Pre_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_permutation [hKernelIdeal : Cert.KernelIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_permutation [hReferenceIdeal : Cert.ReferenceIdeal.Facts] [hPre_permutation : Cert.Pre_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_permutation [hKernelIdeal : Cert.KernelIdeal.Facts] [hReferenceIdeal : Cert.ReferenceIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_permutation : Cert.Pre_permutation.Facts),
    quiescent_Kernel (hKernel := hKernel)
    ∧ quiescent_KernelIdeal (hKernelIdeal := hKernelIdeal)
    ∧ quiescent_KernelIdeal_pre_permutation (hKernelIdeal := hKernelIdeal) (hPre_permutation := hPre_permutation)
    ∧ quiescent_ReferenceIdeal (hReferenceIdeal := hReferenceIdeal)
    ∧ quiescent_ReferenceIdeal_pre_permutation (hReferenceIdeal := hReferenceIdeal) (hPre_permutation := hPre_permutation)
    ∧ preserves_Kernel_KernelIdeal
    ∧ algebraic_KernelIdeal_ReferenceIdeal_pre_permutation (hKernelIdeal := hKernelIdeal) (hReferenceIdeal := hReferenceIdeal) (hPre_permutation := hPre_permutation)
-- ==== Pre_permutation.lean ====
abbrev S4x768x224x224 : Shape := ⟨4, ![4, 768, 224, 224]⟩
abbrev S768 : Shape := ⟨1, ![768]⟩
abbrev S_ : Shape := ⟨0, ![]⟩
abbrev S768x1 : Shape := ⟨2, ![768, 1]⟩
abbrev S1x768 : Shape := ⟨2, ![1, 768]⟩
abbrev S768x768 : Shape := ⟨2, ![768, 768]⟩

class Facts : Prop where
  bcast_S_S768 : S_.BroadcastsInDim S768 (![] : Fin 0 → Fin S768.rank)
  reducesTo_S768_S_d0 : S768.ReducesTo [0] S_
  h_S_ : 0 < S_.numel
  bcast_S768_S768x1_0 : S768.BroadcastsInDim S768x1 (![0] : Fin 1 → Fin S768x1.rank)
  bcast_S768_S1x768_1 : S768.BroadcastsInDim S1x768 (![1] : Fin 1 → Fin S1x768.rank)
  bcast_S768x1_S768x768_0_1 : S768x1.BroadcastsInDim S768x768 (![0, 1] : Fin 2 → Fin S768x768.rank)
  bcast_S1x768_S768x768_0_1 : S1x768.BroadcastsInDim S768x768 (![0, 1] : Fin 2 → Fin S768x768.rank)
  reducesTo_S768x768_S_d0_1 : S768x768.ReducesTo [0, 1] S_

variable [Facts]

def fn {F : FTy → Type} [FloatOps F] (main_arg0 : FVec F S4x768x224x224 .f32) (main_arg1 : IVec S768 32) : IVec S_ 1 :=
  let main_v0 : IVec S768 32 := iotaInDim S768 32 0
  let main_c : IVec S_ 32 := constantI S_ 32 0#32
  let main_v1 : IVec S768 32 := broadcastInDim S768 ![] bcast_S_S768 main_c
  let main_v2 : IVec S768 1 := cmpi .sge main_arg1 main_v1
  let main_c_0 : IVec S_ 32 := constantI S_ 32 768#32
  let main_v3 : IVec S768 32 := broadcastInDim S768 ![] bcast_S_S768 main_c_0
  let main_v4 : IVec S768 1 := cmpi .slt main_arg1 main_v3
  let main_v5 : IVec S768 1 := andi main_v2 main_v4
  let main_c_1 : IVec S_ 1 := constantI S_ 1 1#1
  let main_v6 : IVec S_ 1 := (fun x v => Host.reduce IntOp.andi x v reducesTo_S768_S_d0 h_S_) main_v5 main_c_1
  let main_v7 : IVec S768x1 32 := broadcastInDim S768x1 ![0] bcast_S768_S768x1_0 main_arg1
  let main_v8 : IVec S1x768 32 := broadcastInDim S1x768 ![1] bcast_S768_S1x768_1 main_arg1
  let main_v9 : IVec S768x768 32 := broadcastInDim S768x768 ![0, 1] bcast_S768x1_S768x768_0_1 main_v7
  let main_v10 : IVec S768x768 32 := broadcastInDim S768x768 ![0, 1] bcast_S1x768_S768x768_0_1 main_v8
  let main_v11 : IVec S768x768 1 := cmpi .ne main_v9 main_v10
  let main_v12 : IVec S768x1 32 := broadcastInDim S768x1 ![0] bcast_S768_S768x1_0 main_v0
  let main_v13 : IVec S1x768 32 := broadcastInDim S1x768 ![1] bcast_S768_S1x768_1 main_v0
  let main_v14 : IVec S768x768 32 := broadcastInDim S768x768 ![0, 1] bcast_S768x1_S768x768_0_1 main_v12
  let main_v15 : IVec S768x768 32 := broadcastInDim S768x768 ![0, 1] bcast_S1x768_S768x768_0_1 main_v13
  let main_v16 : IVec S768x768 1 := cmpi .eq main_v14 main_v15
  let main_v17 : IVec S768x768 1 := ori main_v11 main_v16
  let main_c_2 : IVec S_ 1 := constantI S_ 1 1#1
  let main_v18 : IVec S_ 1 := (fun x v => Host.reduce IntOp.andi x v reducesTo_S768x768_S_d0_1 h_S_) main_v17 main_c_2
  let main_v19 : IVec S_ 1 := andi main_v6 main_v18
  main_v19
-- ==== Kernel.lean ====
abbrev S4x768x224x224 : Shape := ⟨4, ![4, 768, 224, 224]⟩
abbrev S768 : Shape := ⟨1, ![768]⟩
abbrev S_ : Shape := ⟨0, ![]⟩
abbrev S768x1 : Shape := ⟨2, ![768, 1]⟩
abbrev S16x8x224x224 : Shape := ⟨4, ![16, 8, 224, 224]⟩
abbrev S16 : Shape := ⟨1, ![16]⟩
abbrev S1 : Shape := ⟨1, ![1]⟩
abbrev S1x8x224x224 : Shape := ⟨4, ![1, 8, 224, 224]⟩
abbrev S8x224x224 : Shape := ⟨3, ![8, 224, 224]⟩
abbrev S1x1x224x224 : Shape := ⟨4, ![1, 1, 224, 224]⟩
abbrev S224x224 : Shape := ⟨2, ![224, 224]⟩

abbrev nBuf : Space → Nat
  | .hbm => 32
  | .vmem => 1
  | .smem => 1
  | _ => 0

abbrev bufTy : (tb : Table) → Fin (tcTables nBuf tb) → BufTy
  | .hbm, ⟨0, _⟩ => ⟨S4x768x224x224, .f32⟩
  | .hbm, ⟨1, _⟩ => ⟨S768, .i32⟩
  | .hbm, ⟨2, _⟩ => ⟨S_, .i32⟩
  | .hbm, ⟨3, _⟩ => ⟨S768, .i32⟩
  | .hbm, ⟨4, _⟩ => ⟨S768, .i32⟩
  | .hbm, ⟨5, _⟩ => ⟨S_, .i32⟩
  | .hbm, ⟨6, _⟩ => ⟨S_, .i32⟩
  | .hbm, ⟨7, _⟩ => ⟨S768, .i32⟩
  | .hbm, ⟨8, _⟩ => ⟨S768, .i32⟩
  | .hbm, ⟨9, _⟩ => ⟨S768, .i32⟩
  | .hbm, ⟨10, _⟩ => ⟨S_, .i32⟩
  | .hbm, ⟨11, _⟩ => ⟨S768, .i32⟩
  | .hbm, ⟨12, _⟩ => ⟨S768, .i1⟩
  | .hbm, ⟨13, _⟩ => ⟨S768, .i32⟩
  | .hbm, ⟨14, _⟩ => ⟨S768, .i32⟩
  | .hbm, ⟨15, _⟩ => ⟨S_, .i32⟩
  | .hbm, ⟨16, _⟩ => ⟨S768, .i32⟩
  | .hbm, ⟨17, _⟩ => ⟨S768, .i1⟩
  | .hbm, ⟨18, _⟩ => ⟨S768, .i1⟩
  | .hbm, ⟨19, _⟩ => ⟨S_, .i32⟩
  | .hbm, ⟨20, _⟩ => ⟨S768, .i32⟩
  | .hbm, ⟨21, _⟩ => ⟨S768, .i32⟩
  | .hbm, ⟨22, _⟩ => ⟨S768, .i32⟩
  | .hbm, ⟨23, _⟩ => ⟨S_, .i32⟩
  | .hbm, ⟨24, _⟩ => ⟨S768, .i32⟩
  | .hbm, ⟨25, _⟩ => ⟨S768, .i1⟩
  | .hbm, ⟨26, _⟩ => ⟨S_, .i32⟩
  | .hbm, ⟨27, _⟩ => ⟨S768, .i32⟩
  | .hbm, ⟨28, _⟩ => ⟨S768, .i32⟩
  | .hbm, ⟨29, _⟩ => ⟨S768, .i32⟩
  | .hbm, ⟨30, _⟩ => ⟨S768x1, .i32⟩
  | .hbm, ⟨31, _⟩ => ⟨S4x768x224x224, .f32⟩
  | .local _ .vmem, ⟨0, _⟩ => ⟨S16x8x224x224, .f32⟩
  | .local _ .smem, ⟨0, _⟩ => ⟨S768, .i32⟩
  | _, _ => ⟨S4x768x224x224, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_1 : Ref sig .tc := ⟨.hbm, 23, rfl⟩
abbrev main_v3 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v10 : Ref sig .tc := ⟨.hbm, 31, rfl⟩
abbrev main_v9 : Ref sig .tc := ⟨.smem, 0, rfl⟩
abbrev cc0_scratch0 : Ref sig .tc := ⟨.vmem, 0, rfl⟩

abbrev nD : Nat := 1
abbrev τ : Topo := Topo.v7x

variable {F : FTy → Type} [FloatOps F]

abbrev grid0 : Pipeline.Grid := ⟨1, ![384], ![false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c8_i32 : BitVec 32 := 8#32
  let v3 : BitVec 32 := Scalar.addi arg0 c8_i32
  let c384_i32 : BitVec 32 := 384#32
  let v4 : BitVec 1 := Scalar.cmpi .slt v3 c384_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c8_i32_117 : BitVec 32 := 8#32
  let v211 : BitVec 32 := Scalar.addi arg0 c8_i32_117
  let c16_i32_118 : BitVec 32 := 16#32
  let v212 : BitVec 1 := Scalar.cmpi .sge v211 c16_i32_118
  let v213 : BitVec 32 := Scalar.extui v212
  let c0_i32_119 : BitVec 32 := 0#32
  let v214 : BitVec 1 := Scalar.cmpi .ne v213 c0_i32_119
  v214

def k0_off1 (i : grid0.Coords) : Fin 1 → Nat :=
  let arg0 : BitVec 32 := BitVec.ofNat 32 (i 0).val
  let c8_i32_152 : BitVec 32 := 8#32
  let v270 : BitVec 32 := Scalar.addi arg0 c8_i32_152
  let c16_i32_153 : BitVec 32 := 16#32
  let v271 : BitVec 32 := Scalar.subi v270 c16_i32_153
  let c16_i32_174 : BitVec 32 := 16#32
  let c0_i32_175 : BitVec 32 := 0#32
  let v310 : BitVec 1 := Scalar.cmpi .eq c16_i32_174 c0_i32_175
  let c1_i32_176 : BitVec 32 := 1#32
  let v311 : BitVec 32 := Scalar.select v310 c1_i32_176 c16_i32_174
  let v312 : BitVec 32 := Scalar.remsi v271 v311
  let c0_i32_178 : BitVec 32 := 0#32
  let v314 : BitVec 1 := Scalar.cmpi .slt v312 c0_i32_178
  let c0_i32_179 : BitVec 32 := 0#32
  let v315 : BitVec 1 := Scalar.cmpi .slt v311 c0_i32_179
  let v316 : BitVec 1 := Scalar.xori v314 v315
  let c0_i32_177 : BitVec 32 := 0#32
  let v313 : BitVec 1 := Scalar.cmpi .ne v312 c0_i32_177
  let v317 : BitVec 1 := Scalar.andi v316 v313
  let v318 : BitVec 32 := Scalar.addi v312 v311
  let v319 : BitVec 32 := Scalar.select v317 v318 v312
  ![v319.toNat]
def k0_off2 (i : grid0.Coords) : Fin 4 → Nat :=
  let arg0 : BitVec 32 := BitVec.ofNat 32 (i 0).val
  let c8_i32_152 : BitVec 32 := 8#32
  let v270 : BitVec 32 := Scalar.addi arg0 c8_i32_152
  let c16_i32_153 : BitVec 32 := 16#32
  let v271 : BitVec 32 := Scalar.subi v270 c16_i32_153
  let c0_i32_161 : BitVec 32 := 0#32
  let v283 : BitVec 1 := Scalar.cmpi .sgt v271 c0_i32_161
  let v284 : BitVec 32 := Scalar.extui v283
  let c0_i32_162 : BitVec 32 := 0#32
  let v285 : BitVec 1 := Scalar.cmpi .slt v271 c0_i32_162
  let v286 : BitVec 32 := Scalar.extui v285
  let v287 : BitVec 32 := Scalar.subi v284 v286
  let c96_i32_160 : BitVec 32 := 96#32
  let c0_i32_163 : BitVec 32 := 0#32
  let v288 : BitVec 1 := Scalar.cmpi .sgt c96_i32_160 c0_i32_163
  let v289 : BitVec 32 := Scalar.extui v288
  let c0_i32_164 : BitVec 32 := 0#32
  let v290 : BitVec 1 := Scalar.cmpi .slt c96_i32_160 c0_i32_164
  let v291 : BitVec 32 := Scalar.extui v290
  let v292 : BitVec 32 := Scalar.subi v289 v291
  let v293 : BitVec 1 := Scalar.cmpi .ne v287 v292
  let v294 : BitVec 32 := Scalar.remsi v271 c96_i32_160
  let c0_i32_165 : BitVec 32 := 0#32
  let v295 : BitVec 1 := Scalar.cmpi .ne v294 c0_i32_165
  let v296 : BitVec 1 := Scalar.andi v293 v295
  let v282 : BitVec 32 := Scalar.divsi v271 c96_i32_160
  let c1_i32_166 : BitVec 32 := 1#32
  let v297 : BitVec 32 := Scalar.subi v282 c1_i32_166
  let v298 : BitVec 32 := Scalar.select v296 v297 v282
  let c96_i32_167 : BitVec 32 := 96#32
  let c0_i32_168 : BitVec 32 := 0#32
  let v299 : BitVec 1 := Scalar.cmpi .eq c96_i32_167 c0_i32_168
  let c1_i32_169 : BitVec 32 := 1#32
  let v300 : BitVec 32 := Scalar.select v299 c1_i32_169 c96_i32_167
  let v301 : BitVec 32 := Scalar.remsi v271 v300
  let c0_i32_171 : BitVec 32 := 0#32
  let v303 : BitVec 1 := Scalar.cmpi .slt v301 c0_i32_171
  let c0_i32_172 : BitVec 32 := 0#32
  let v304 : BitVec 1 := Scalar.cmpi .slt v300 c0_i32_172
  let v305 : BitVec 1 := Scalar.xori v303 v304
  let c0_i32_170 : BitVec 32 := 0#32
  let v302 : BitVec 1 := Scalar.cmpi .ne v301 c0_i32_170
  let v306 : BitVec 1 := Scalar.andi v305 v302
  let v307 : BitVec 32 := Scalar.addi v301 v300
  let v308 : BitVec 32 := Scalar.select v306 v307 v301
  let c8_i32_173 : BitVec 32 := 8#32
  let v309 : BitVec 32 := Scalar.muli v308 c8_i32_173
  let c0_i32_180 : BitVec 32 := 0#32
  let c0_i32_181 : BitVec 32 := 0#32
  ![v298.toNat, v309.toNat, 0, 0]
def k0_off3 (i : grid0.Coords) : Fin 4 → Nat :=
  let arg0 : BitVec 32 := BitVec.ofNat 32 (i 0).val
  let c8_i32_152 : BitVec 32 := 8#32
  let v270 : BitVec 32 := Scalar.addi arg0 c8_i32_152
  let c16_i32_153 : BitVec 32 := 16#32
  let v271 : BitVec 32 := Scalar.subi v270 c16_i32_153
  let c16_i32_154 : BitVec 32 := 16#32
  let c0_i32_155 : BitVec 32 := 0#32
  let v272 : BitVec 1 := Scalar.cmpi .eq c16_i32_154 c0_i32_155
  let c1_i32_156 : BitVec 32 := 1#32
  let v273 : BitVec 32 := Scalar.select v272 c1_i32_156 c16_i32_154
  let v274 : BitVec 32 := Scalar.remsi v271 v273
  let c0_i32_158 : BitVec 32 := 0#32
  let v276 : BitVec 1 := Scalar.cmpi .slt v274 c0_i32_158
  let c0_i32_159 : BitVec 32 := 0#32
  let v277 : BitVec 1 := Scalar.cmpi .slt v273 c0_i32_159
  let v278 : BitVec 1 := Scalar.xori v276 v277
  let c0_i32_157 : BitVec 32 := 0#32
  let v275 : BitVec 1 := Scalar.cmpi .ne v274 c0_i32_157
  let v279 : BitVec 1 := Scalar.andi v278 v275
  let v280 : BitVec 32 := Scalar.addi v274 v273
  let v281 : BitVec 32 := Scalar.select v279 v280 v274
  let c0_i32_182 : BitVec 32 := 0#32
  let c0_i32_183 : BitVec 32 := 0#32
  let c0_i32_184 : BitVec 32 := 0#32
  ![v281.toNat, 0, 0, 0]
def k0_off4 (i : grid0.Coords) : Fin 1 → Nat :=
  let arg0 : BitVec 32 := BitVec.ofNat 32 (i 0).val
  let c8_i32_120 : BitVec 32 := 8#32
  let v215 : BitVec 32 := Scalar.addi arg0 c8_i32_120
  let c16_i32_141 : BitVec 32 := 16#32
  let c0_i32_142 : BitVec 32 := 0#32
  let v254 : BitVec 1 := Scalar.cmpi .eq c16_i32_141 c0_i32_142
  let c1_i32_143 : BitVec 32 := 1#32
  let v255 : BitVec 32 := Scalar.select v254 c1_i32_143 c16_i32_141
  let v256 : BitVec 32 := Scalar.remsi v215 v255
  let c0_i32_145 : BitVec 32 := 0#32
  let v258 : BitVec 1 := Scalar.cmpi .slt v256 c0_i32_145
  let c0_i32_146 : BitVec 32 := 0#32
  let v259 : BitVec 1 := Scalar.cmpi .slt v255 c0_i32_146
  let v260 : BitVec 1 := Scalar.xori v258 v259
  let c0_i32_144 : BitVec 32 := 0#32
  let v257 : BitVec 1 := Scalar.cmpi .ne v256 c0_i32_144
  let v261 : BitVec 1 := Scalar.andi v260 v257
  let v262 : BitVec 32 := Scalar.addi v256 v255
  let v263 : BitVec 32 := Scalar.select v261 v262 v256
  ![v263.toNat]
def k0_off5 (i : grid0.Coords) : Fin 4 → Nat :=
  let arg0 : BitVec 32 := BitVec.ofNat 32 (i 0).val
  let c8_i32_120 : BitVec 32 := 8#32
  let v215 : BitVec 32 := Scalar.addi arg0 c8_i32_120
  let c16_i32_135 : BitVec 32 := 16#32
  let c0_i32_136 : BitVec 32 := 0#32
  let v244 : BitVec 1 := Scalar.cmpi .eq c16_i32_135 c0_i32_136
  let c1_i32_137 : BitVec 32 := 1#32
  let v245 : BitVec 32 := Scalar.select v244 c1_i32_137 c16_i32_135
  let v246 : BitVec 32 := Scalar.remsi v215 v245
  let c0_i32_139 : BitVec 32 := 0#32
  let v248 : BitVec 1 := Scalar.cmpi .slt v246 c0_i32_139
  let c0_i32_140 : BitVec 32 := 0#32
  let v249 : BitVec 1 := Scalar.cmpi .slt v245 c0_i32_140
  let v250 : BitVec 1 := Scalar.xori v248 v249
  let c0_i32_138 : BitVec 32 := 0#32
  let v247 : BitVec 1 := Scalar.cmpi .ne v246 c0_i32_138
  let v251 : BitVec 1 := Scalar.andi v250 v247
  let v252 : BitVec 32 := Scalar.addi v246 v245
  let v253 : BitVec 32 := Scalar.select v251 v252 v246
  let c0_i32_147 : BitVec 32 := 0#32
  let c0_i32_148 : BitVec 32 := 0#32
  let c0_i32_149 : BitVec 32 := 0#32
  ![v253.toNat, 0, 0, 0]
def k0_off6 (i : grid0.Coords) : Fin 4 → Nat :=
  let arg0 : BitVec 32 := BitVec.ofNat 32 (i 0).val
  let c8_i32_120 : BitVec 32 := 8#32
  let v215 : BitVec 32 := Scalar.addi arg0 c8_i32_120
  let c0_i32_122 : BitVec 32 := 0#32
  let v217 : BitVec 1 := Scalar.cmpi .sgt v215 c0_i32_122
  let v218 : BitVec 32 := Scalar.extui v217
  let c0_i32_123 : BitVec 32 := 0#32
  let v219 : BitVec 1 := Scalar.cmpi .slt v215 c0_i32_123
  let v220 : BitVec 32 := Scalar.extui v219
  let v221 : BitVec 32 := Scalar.subi v218 v220
  let c96_i32_121 : BitVec 32 := 96#32
  let c0_i32_124 : BitVec 32 := 0#32
  let v222 : BitVec 1 := Scalar.cmpi .sgt c96_i32_121 c0_i32_124
  let v223 : BitVec 32 := Scalar.extui v222
  let c0_i32_125 : BitVec 32 := 0#32
  let v224 : BitVec 1 := Scalar.cmpi .slt c96_i32_121 c0_i32_125
  let v225 : BitVec 32 := Scalar.extui v224
  let v226 : BitVec 32 := Scalar.subi v223 v225
  let v227 : BitVec 1 := Scalar.cmpi .ne v221 v226
  let v228 : BitVec 32 := Scalar.remsi v215 c96_i32_121
  let c0_i32_126 : BitVec 32 := 0#32
  let v229 : BitVec 1 := Scalar.cmpi .ne v228 c0_i32_126
  let v230 : BitVec 1 := Scalar.andi v227 v229
  let v216 : BitVec 32 := Scalar.divsi v215 c96_i32_121
  let c1_i32_127 : BitVec 32 := 1#32
  let v231 : BitVec 32 := Scalar.subi v216 c1_i32_127
  let v232 : BitVec 32 := Scalar.select v230 v231 v216
  let c96_i32_128 : BitVec 32 := 96#32
  let c0_i32_129 : BitVec 32 := 0#32
  let v233 : BitVec 1 := Scalar.cmpi .eq c96_i32_128 c0_i32_129
  let c1_i32_130 : BitVec 32 := 1#32
  let v234 : BitVec 32 := Scalar.select v233 c1_i32_130 c96_i32_128
  let v235 : BitVec 32 := Scalar.remsi v215 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let c8_i32_134 : BitVec 32 := 8#32
  let v243 : BitVec 32 := Scalar.muli v242 c8_i32_134
  let c0_i32_150 : BitVec 32 := 0#32
  let c0_i32_151 : BitVec 32 := 0#32
  ![v232.toNat, v243.toNat, 0, 0]
def k0_off7 (i : grid0.Coords) : Fin 1 → Nat :=
  let arg0 : BitVec 32 := BitVec.ofNat 32 (i 0).val
  let c16_i32_19 : BitVec 32 := 16#32
  let c0_i32_20 : BitVec 32 := 0#32
  let v45 : BitVec 1 := Scalar.cmpi .eq c16_i32_19 c0_i32_20
  let c1_i32_21 : BitVec 32 := 1#32
  let v46 : BitVec 32 := Scalar.select v45 c1_i32_21 c16_i32_19
  let v47 : BitVec 32 := Scalar.remsi arg0 v46
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let c0_i32_22 : BitVec 32 := 0#32
  let v48 : BitVec 1 := Scalar.cmpi .ne v47 c0_i32_22
  let v52 : BitVec 1 := Scalar.andi v51 v48
  let v53 : BitVec 32 := Scalar.addi v47 v46
  let v54 : BitVec 32 := Scalar.select v52 v53 v47
  ![v54.toNat]
def k0_off8 (i : grid0.Coords) : Fin 4 → Nat :=
  let arg0 : BitVec 32 := BitVec.ofNat 32 (i 0).val
  let c16_i32 : BitVec 32 := 16#32
  let c0_i32_14 : BitVec 32 := 0#32
  let v35 : BitVec 1 := Scalar.cmpi .eq c16_i32 c0_i32_14
  let c1_i32_15 : BitVec 32 := 1#32
  let v36 : BitVec 32 := Scalar.select v35 c1_i32_15 c16_i32
  let v37 : BitVec 32 := Scalar.remsi arg0 v36
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let c0_i32_16 : BitVec 32 := 0#32
  let v38 : BitVec 1 := Scalar.cmpi .ne v37 c0_i32_16
  let v42 : BitVec 1 := Scalar.andi v41 v38
  let v43 : BitVec 32 := Scalar.addi v37 v36
  let v44 : BitVec 32 := Scalar.select v42 v43 v37
  let c0_i32_25 : BitVec 32 := 0#32
  let c0_i32_26 : BitVec 32 := 0#32
  let c0_i32_27 : BitVec 32 := 0#32
  ![v44.toNat, 0, 0, 0]
def k0_off9 (i : grid0.Coords) : Fin 4 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c96_i32 : BitVec 32 := 96#32
  let c0_i32_4 : BitVec 32 := 0#32
  let v13 : BitVec 1 := Scalar.cmpi .sgt c96_i32 c0_i32_4
  let v14 : BitVec 32 := Scalar.extui v13
  let c0_i32_5 : BitVec 32 := 0#32
  let v15 : BitVec 1 := Scalar.cmpi .slt c96_i32 c0_i32_5
  let v16 : BitVec 32 := Scalar.extui v15
  let v17 : BitVec 32 := Scalar.subi v14 v16
  let v18 : BitVec 1 := Scalar.cmpi .ne v12 v17
  let v19 : BitVec 32 := Scalar.remsi arg0 c96_i32
  let c0_i32_6 : BitVec 32 := 0#32
  let v20 : BitVec 1 := Scalar.cmpi .ne v19 c0_i32_6
  let v21 : BitVec 1 := Scalar.andi v18 v20
  let v7 : BitVec 32 := Scalar.divsi arg0 c96_i32
  let c1_i32 : BitVec 32 := 1#32
  let v22 : BitVec 32 := Scalar.subi v7 c1_i32
  let v23 : BitVec 32 := Scalar.select v21 v22 v7
  let c96_i32_7 : BitVec 32 := 96#32
  let c0_i32_8 : BitVec 32 := 0#32
  let v24 : BitVec 1 := Scalar.cmpi .eq c96_i32_7 c0_i32_8
  let c1_i32_9 : BitVec 32 := 1#32
  let v25 : BitVec 32 := Scalar.select v24 c1_i32_9 c96_i32_7
  let v26 : BitVec 32 := Scalar.remsi arg0 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c8_i32_13 : BitVec 32 := 8#32
  let v34 : BitVec 32 := Scalar.muli v33 c8_i32_13
  let c0_i32_28 : BitVec 32 := 0#32
  let c0_i32_29 : BitVec 32 := 0#32
  ![v23.toNat, v34.toNat, 0, 0]
def k0_off10 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c0_i32_43 : BitVec 32 := 0#32
  let v82 : BitVec 32 := Scalar.addi v81 c0_i32_43
  let v83 : Index := Scalar.indexCast v82
  ![v83.toNat]
def k0_off11 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v85 : Index := Scalar.indexCast v70
  let c0 : Index := 0#32
  let c0_44 : Index := 0#32
  let c0_45 : Index := 0#32
  ![v85.toNat, 0, 0, 0]
def k0_off12 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c0_121 : Index := 0#32
  let c0_122 : Index := 0#32
  let c0_123 : Index := 0#32
  ![v216.toNat, 0, 0, 0]
def k0_off13 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c0_122 : Index := 0#32
  let c0_123 : Index := 0#32
  let c0_124 : Index := 0#32
  ![v216.toNat, 0, 0, 0]
def k0_off14 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c0_119 : Index := 0#32
  let c0_120 : Index := 0#32
  let c0_121 : Index := 0#32
  ![v214.toNat, 0, 0, 0]
def k0_off15 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c0_118 : Index := 0#32
  let c0_119 : Index := 0#32
  let c0_120 : Index := 0#32
  ![v212.toNat, 0, 0, 0]
def k0_off16 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c1_i32_48 : BitVec 32 := 1#32
  let v91 : BitVec 32 := Scalar.addi v81 c1_i32_48
  let v92 : Index := Scalar.indexCast v91
  ![v92.toNat]
def k0_off17 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v94 : Index := Scalar.indexCast v70
  let c1 : Index := 1#32
  let c0_49 : Index := 0#32
  let c0_50 : Index := 0#32
  ![v94.toNat, 1, 0, 0]
def k0_off18 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c1_121 : Index := 1#32
  let c0_122 : Index := 0#32
  let c0_123 : Index := 0#32
  ![v216.toNat, 1, 0, 0]
def k0_off19 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c1_122 : Index := 1#32
  let c0_123 : Index := 0#32
  let c0_124 : Index := 0#32
  ![v216.toNat, 1, 0, 0]
def k0_off20 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c1_119 : Index := 1#32
  let c0_120 : Index := 0#32
  let c0_121 : Index := 0#32
  ![v214.toNat, 1, 0, 0]
def k0_off21 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c1_118 : Index := 1#32
  let c0_119 : Index := 0#32
  let c0_120 : Index := 0#32
  ![v212.toNat, 1, 0, 0]
def k0_off22 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c2_i32 : BitVec 32 := 2#32
  let v100 : BitVec 32 := Scalar.addi v81 c2_i32
  let v101 : Index := Scalar.indexCast v100
  ![v101.toNat]
def k0_off23 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v103 : Index := Scalar.indexCast v70
  let c2 : Index := 2#32
  let c0_54 : Index := 0#32
  let c0_55 : Index := 0#32
  ![v103.toNat, 2, 0, 0]
def k0_off24 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c2_121 : Index := 2#32
  let c0_122 : Index := 0#32
  let c0_123 : Index := 0#32
  ![v216.toNat, 2, 0, 0]
def k0_off25 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c2_122 : Index := 2#32
  let c0_123 : Index := 0#32
  let c0_124 : Index := 0#32
  ![v216.toNat, 2, 0, 0]
def k0_off26 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c2_119 : Index := 2#32
  let c0_120 : Index := 0#32
  let c0_121 : Index := 0#32
  ![v214.toNat, 2, 0, 0]
def k0_off27 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c2_118 : Index := 2#32
  let c0_119 : Index := 0#32
  let c0_120 : Index := 0#32
  ![v212.toNat, 2, 0, 0]
def k0_off28 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c3_i32_59 : BitVec 32 := 3#32
  let v109 : BitVec 32 := Scalar.addi v81 c3_i32_59
  let v110 : Index := Scalar.indexCast v109
  ![v110.toNat]
def k0_off29 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v112 : Index := Scalar.indexCast v70
  let c3 : Index := 3#32
  let c0_60 : Index := 0#32
  let c0_61 : Index := 0#32
  ![v112.toNat, 3, 0, 0]
def k0_off30 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c3_121 : Index := 3#32
  let c0_122 : Index := 0#32
  let c0_123 : Index := 0#32
  ![v216.toNat, 3, 0, 0]
def k0_off31 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c3_122 : Index := 3#32
  let c0_123 : Index := 0#32
  let c0_124 : Index := 0#32
  ![v216.toNat, 3, 0, 0]
def k0_off32 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c3_119 : Index := 3#32
  let c0_120 : Index := 0#32
  let c0_121 : Index := 0#32
  ![v214.toNat, 3, 0, 0]
def k0_off33 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c3_118 : Index := 3#32
  let c0_119 : Index := 0#32
  let c0_120 : Index := 0#32
  ![v212.toNat, 3, 0, 0]
def k0_off34 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c4_i32 : BitVec 32 := 4#32
  let v118 : BitVec 32 := Scalar.addi v81 c4_i32
  let v119 : Index := Scalar.indexCast v118
  ![v119.toNat]
def k0_off35 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v121 : Index := Scalar.indexCast v70
  let c4 : Index := 4#32
  let c0_65 : Index := 0#32
  let c0_66 : Index := 0#32
  ![v121.toNat, 4, 0, 0]
def k0_off36 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c4_121 : Index := 4#32
  let c0_122 : Index := 0#32
  let c0_123 : Index := 0#32
  ![v216.toNat, 4, 0, 0]
def k0_off37 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c4_122 : Index := 4#32
  let c0_123 : Index := 0#32
  let c0_124 : Index := 0#32
  ![v216.toNat, 4, 0, 0]
def k0_off38 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c4_119 : Index := 4#32
  let c0_120 : Index := 0#32
  let c0_121 : Index := 0#32
  ![v214.toNat, 4, 0, 0]
def k0_off39 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c4_118 : Index := 4#32
  let c0_119 : Index := 0#32
  let c0_120 : Index := 0#32
  ![v212.toNat, 4, 0, 0]
def k0_off40 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c5_i32 : BitVec 32 := 5#32
  let v127 : BitVec 32 := Scalar.addi v81 c5_i32
  let v128 : Index := Scalar.indexCast v127
  ![v128.toNat]
def k0_off41 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v130 : Index := Scalar.indexCast v70
  let c5 : Index := 5#32
  let c0_70 : Index := 0#32
  let c0_71 : Index := 0#32
  ![v130.toNat, 5, 0, 0]
def k0_off42 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c5_121 : Index := 5#32
  let c0_122 : Index := 0#32
  let c0_123 : Index := 0#32
  ![v216.toNat, 5, 0, 0]
def k0_off43 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c5_122 : Index := 5#32
  let c0_123 : Index := 0#32
  let c0_124 : Index := 0#32
  ![v216.toNat, 5, 0, 0]
def k0_off44 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c5_119 : Index := 5#32
  let c0_120 : Index := 0#32
  let c0_121 : Index := 0#32
  ![v214.toNat, 5, 0, 0]
def k0_off45 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c5_118 : Index := 5#32
  let c0_119 : Index := 0#32
  let c0_120 : Index := 0#32
  ![v212.toNat, 5, 0, 0]
def k0_off46 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c6_i32 : BitVec 32 := 6#32
  let v136 : BitVec 32 := Scalar.addi v81 c6_i32
  let v137 : Index := Scalar.indexCast v136
  ![v137.toNat]
def k0_off47 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v139 : Index := Scalar.indexCast v70
  let c6 : Index := 6#32
  let c0_75 : Index := 0#32
  let c0_76 : Index := 0#32
  ![v139.toNat, 6, 0, 0]
def k0_off48 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c6_121 : Index := 6#32
  let c0_122 : Index := 0#32
  let c0_123 : Index := 0#32
  ![v216.toNat, 6, 0, 0]
def k0_off49 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c6_122 : Index := 6#32
  let c0_123 : Index := 0#32
  let c0_124 : Index := 0#32
  ![v216.toNat, 6, 0, 0]
def k0_off50 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c6_119 : Index := 6#32
  let c0_120 : Index := 0#32
  let c0_121 : Index := 0#32
  ![v214.toNat, 6, 0, 0]
def k0_off51 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c6_118 : Index := 6#32
  let c0_119 : Index := 0#32
  let c0_120 : Index := 0#32
  ![v212.toNat, 6, 0, 0]
def k0_off52 (i : grid0.Coords) : Fin 1 → Nat :=
  let arg0 : BitVec 32 := BitVec.ofNat 32 (i 0).val
  let c96_i32_36 : BitVec 32 := 96#32
  let c0_i32_37 : BitVec 32 := 0#32
  let v71 : BitVec 1 := Scalar.cmpi .eq c96_i32_36 c0_i32_37
  let c1_i32_38 : BitVec 32 := 1#32
  let v72 : BitVec 32 := Scalar.select v71 c1_i32_38 c96_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let c8_i32_42 : BitVec 32 := 8#32
  let v81 : BitVec 32 := Scalar.muli v80 c8_i32_42
  let c7_i32 : BitVec 32 := 7#32
  let v145 : BitVec 32 := Scalar.addi v81 c7_i32
  let v146 : Index := Scalar.indexCast v145
  ![v146.toNat]
def k0_off53 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v148 : Index := Scalar.indexCast v70
  let c7 : Index := 7#32
  let c0_80 : Index := 0#32
  let c0_81 : Index := 0#32
  ![v148.toNat, 7, 0, 0]
def k0_off54 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c7_121 : Index := 7#32
  let c0_122 : Index := 0#32
  let c0_123 : Index := 0#32
  ![v216.toNat, 7, 0, 0]
def k0_off55 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v216 : Index := Scalar.indexCast v70
  let c7_122 : Index := 7#32
  let c0_123 : Index := 0#32
  let c0_124 : Index := 0#32
  ![v216.toNat, 7, 0, 0]
def k0_off56 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v214 : Index := Scalar.indexCast v70
  let c7_119 : Index := 7#32
  let c0_120 : Index := 0#32
  let c0_121 : Index := 0#32
  ![v214.toNat, 7, 0, 0]
def k0_off57 (i : grid0.Coords) : Fin 4 → Nat :=
  let arg0 : BitVec 32 := BitVec.ofNat 32 (i 0).val
  let c16_i32_30 : BitVec 32 := 16#32
  let c0_i32_31 : BitVec 32 := 0#32
  let v61 : BitVec 1 := Scalar.cmpi .eq c16_i32_30 c0_i32_31
  let c1_i32_32 : BitVec 32 := 1#32
  let v62 : BitVec 32 := Scalar.select v61 c1_i32_32 c16_i32_30
  let v63 : BitVec 32 := Scalar.remsi arg0 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let v212 : Index := Scalar.indexCast v70
  let c7_118 : Index := 7#32
  let c0_119 : Index := 0#32
  let c0_120 : Index := 0#32
  ![v212.toNat, 7, 0, 0]
def k0_off58 (i : grid0.Coords) : Fin 1 → Nat :=
  let arg0 : BitVec 32 := BitVec.ofNat 32 (i 0).val
  let c16_i32_105 : BitVec 32 := 16#32
  let c0_i32_106 : BitVec 32 := 0#32
  let v192 : BitVec 1 := Scalar.cmpi .eq c16_i32_105 c0_i32_106
  let c1_i32_107 : BitVec 32 := 1#32
  let v193 : BitVec 32 := Scalar.select v192 c1_i32_107 c16_i32_105
  let v194 : BitVec 32 := Scalar.remsi arg0 v193
  let c0_i32_109 : BitVec 32 := 0#32
  let v196 : BitVec 1 := Scalar.cmpi .slt v194 c0_i32_109
  let c0_i32_110 : BitVec 32 := 0#32
  let v197 : BitVec 1 := Scalar.cmpi .slt v193 c0_i32_110
  let v198 : BitVec 1 := Scalar.xori v196 v197
  let c0_i32_108 : BitVec 32 := 0#32
  let v195 : BitVec 1 := Scalar.cmpi .ne v194 c0_i32_108
  let v199 : BitVec 1 := Scalar.andi v198 v195
  let v200 : BitVec 32 := Scalar.addi v194 v193
  let v201 : BitVec 32 := Scalar.select v199 v200 v194
  ![v201.toNat]
def k0_off59 (i : grid0.Coords) : Fin 4 → Nat :=
  let arg0 : BitVec 32 := BitVec.ofNat 32 (i 0).val
  let c0_i32_92 : BitVec 32 := 0#32
  let v165 : BitVec 1 := Scalar.cmpi .sgt arg0 c0_i32_92
  let v166 : BitVec 32 := Scalar.extui v165
  let c0_i32_93 : BitVec 32 := 0#32
  let v167 : BitVec 1 := Scalar.cmpi .slt arg0 c0_i32_93
  let v168 : BitVec 32 := Scalar.extui v167
  let v169 : BitVec 32 := Scalar.subi v166 v168
  let c96_i32_91 : BitVec 32 := 96#32
  let c0_i32_94 : BitVec 32 := 0#32
  let v170 : BitVec 1 := Scalar.cmpi .sgt c96_i32_91 c0_i32_94
  let v171 : BitVec 32 := Scalar.extui v170
  let c0_i32_95 : BitVec 32 := 0#32
  let v172 : BitVec 1 := Scalar.cmpi .slt c96_i32_91 c0_i32_95
  let v173 : BitVec 32 := Scalar.extui v172
  let v174 : BitVec 32 := Scalar.subi v171 v173
  let v175 : BitVec 1 := Scalar.cmpi .ne v169 v174
  let v176 : BitVec 32 := Scalar.remsi arg0 c96_i32_91
  let c0_i32_96 : BitVec 32 := 0#32
  let v177 : BitVec 1 := Scalar.cmpi .ne v176 c0_i32_96
  let v178 : BitVec 1 := Scalar.andi v175 v177
  let v164 : BitVec 32 := Scalar.divsi arg0 c96_i32_91
  let c1_i32_97 : BitVec 32 := 1#32
  let v179 : BitVec 32 := Scalar.subi v164 c1_i32_97
  let v180 : BitVec 32 := Scalar.select v178 v179 v164
  let c96_i32_98 : BitVec 32 := 96#32
  let c0_i32_99 : BitVec 32 := 0#32
  let v181 : BitVec 1 := Scalar.cmpi .eq c96_i32_98 c0_i32_99
  let c1_i32_100 : BitVec 32 := 1#32
  let v182 : BitVec 32 := Scalar.select v181 c1_i32_100 c96_i32_98
  let v183 : BitVec 32 := Scalar.remsi arg0 v182
  let c0_i32_102 : BitVec 32 := 0#32
  let v185 : BitVec 1 := Scalar.cmpi .slt v183 c0_i32_102
  let c0_i32_103 : BitVec 32 := 0#32
  let v186 : BitVec 1 := Scalar.cmpi .slt v182 c0_i32_103
  let v187 : BitVec 1 := Scalar.xori v185 v186
  let c0_i32_101 : BitVec 32 := 0#32
  let v184 : BitVec 1 := Scalar.cmpi .ne v183 c0_i32_101
  let v188 : BitVec 1 := Scalar.andi v187 v184
  let v189 : BitVec 32 := Scalar.addi v183 v182
  let v190 : BitVec 32 := Scalar.select v188 v189 v183
  let c8_i32_104 : BitVec 32 := 8#32
  let v191 : BitVec 32 := Scalar.muli v190 c8_i32_104
  let c0_i32_111 : BitVec 32 := 0#32
  let c0_i32_112 : BitVec 32 := 0#32
  ![v180.toNat, v191.toNat, 0, 0]
def k0_off60 (i : grid0.Coords) : Fin 4 → Nat :=
  let arg0 : BitVec 32 := BitVec.ofNat 32 (i 0).val
  let c16_i32_85 : BitVec 32 := 16#32
  let c0_i32_86 : BitVec 32 := 0#32
  let v154 : BitVec 1 := Scalar.cmpi .eq c16_i32_85 c0_i32_86
  let c1_i32_87 : BitVec 32 := 1#32
  let v155 : BitVec 32 := Scalar.select v154 c1_i32_87 c16_i32_85
  let v156 : BitVec 32 := Scalar.remsi arg0 v155
  let c0_i32_89 : BitVec 32 := 0#32
  let v158 : BitVec 1 := Scalar.cmpi .slt v156 c0_i32_89
  let c0_i32_90 : BitVec 32 := 0#32
  let v159 : BitVec 1 := Scalar.cmpi .slt v155 c0_i32_90
  let v160 : BitVec 1 := Scalar.xori v158 v159
  let c0_i32_88 : BitVec 32 := 0#32
  let v157 : BitVec 1 := Scalar.cmpi .ne v156 c0_i32_88
  let v161 : BitVec 1 := Scalar.andi v160 v157
  let v162 : BitVec 32 := Scalar.addi v156 v155
  let v163 : BitVec 32 := Scalar.select v161 v162 v156
  let c0_i32_113 : BitVec 32 := 0#32
  let c0_i32_114 : BitVec 32 := 0#32
  let c0_i32_115 : BitVec 32 := 0#32
  ![v163.toNat, 0, 0, 0]
-- ==== ReferenceIdeal.lean ====
abbrev S4x768x224x224 : Shape := ⟨4, ![4, 768, 224, 224]⟩
abbrev S768 : Shape := ⟨1, ![768]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩
abbrev S4x192x224x224 : Shape := ⟨4, ![4, 192, 224, 224]⟩
abbrev S4x192x1x224 : Shape := ⟨4, ![4, 192, 1, 224]⟩
abbrev S4x192x223x224 : Shape := ⟨4, ![4, 192, 223, 224]⟩
abbrev S4x192x224x1 : Shape := ⟨4, ![4, 192, 224, 1]⟩
abbrev S4x192x224x223 : Shape := ⟨4, ![4, 192, 224, 223]⟩
abbrev S768x1 : Shape := ⟨2, ![768, 1]⟩

abbrev nBuf : Space → Nat
  | .hbm => 137
  | .vmem => 0
  | .smem => 0
  | _ => 0

abbrev hbmTy0_0 (i : Nat) : BufTy := match i % 128 with
  | 0 => ⟨S4x768x224x224, .f32⟩
  | 1 => ⟨S768, .i32⟩
  | 2 => ⟨S768, .i32⟩
  | 3 => ⟨S768, .i32⟩
  | 4 => ⟨S768, .i32⟩
  | 5 => ⟨S192, .i32⟩
  | 6 => ⟨S_, .i32⟩
  | 7 => ⟨S192, .i32⟩
  | 8 => ⟨S192, .i1⟩
  | 9 => ⟨S_, .i32⟩
  | 10 => ⟨S192, .i32⟩
  | 11 => ⟨S192, .i32⟩
  | 12 => ⟨S192, .i32⟩
  | 13 => ⟨S192x1, .i32⟩
  | 14 => ⟨S1, .i32⟩
  | 15 => ⟨S_, .i32⟩
  | 16 => ⟨S192x1, .i32⟩
  | 17 => ⟨S192x1, .i1⟩
  | 18 => ⟨S1x1, .i32⟩
  | 19 => ⟨S192x1, .i32⟩
  | 20 => ⟨S192x1, .i1⟩
  | 21 => ⟨S192x1, .i1⟩
  | 22 => ⟨S_, .i1⟩
  | 23 => ⟨S192, .i1⟩
  | 24 => ⟨S4x192x224x224, .f32⟩
  | 25 => ⟨S4x192x224x224, .i1⟩
  | 26 => ⟨S_, .f32⟩
  | 27 => ⟨S4x192x224x224, .f32⟩
  | 28 => ⟨S4x192x224x224, .f32⟩
  | 29 => ⟨S4x192x1x224, .f32⟩
  | 30 => ⟨S4x192x223x224, .f32⟩
  | 31 => ⟨S4x192x224x224, .f32⟩
  | 32 => ⟨S192, .i32⟩
  | 33 => ⟨S_, .i32⟩
  | 34 => ⟨S192, .i32⟩
  | 35 => ⟨S192, .i1⟩
  | 36 => ⟨S_, .i32⟩
  | 37 => ⟨S192, .i32⟩
  | 38 => ⟨S192, .i32⟩
  | 39 => ⟨S192, .i32⟩
  | 40 => ⟨S192x1, .i32⟩
  | 41 => ⟨S1, .i32⟩
  | 42 => ⟨S_, .i32⟩
  | 43 => ⟨S192x1, .i32⟩
  | 44 => ⟨S192x1, .i1⟩
  | 45 => ⟨S1x1, .i32⟩
  | 46 => ⟨S192x1, .i32⟩
  | 47 => ⟨S192x1, .i1⟩
  | 48 => ⟨S192x1, .i1⟩
  | 49 => ⟨S_, .i1⟩
  | 50 => ⟨S192, .i1⟩
  | 51 => ⟨S4x192x224x224, .f32⟩
  | 52 => ⟨S4x192x224x224, .i1⟩
  | 53 => ⟨S_, .f32⟩
  | 54 => ⟨S4x192x224x224, .f32⟩
  | 55 => ⟨S4x192x224x224, .f32⟩
  | 56 => ⟨S4x192x223x224, .f32⟩
  | 57 => ⟨S4x192x1x224, .f32⟩
  | 58 => ⟨S4x192x224x224, .f32⟩
  | 59 => ⟨S192, .i32⟩
  | 60 => ⟨S_, .i32⟩
  | 61 => ⟨S192, .i32⟩
  | 62 => ⟨S192, .i1⟩
  | 63 => ⟨S_, .i32⟩
  | 64 => ⟨S192, .i32⟩
  | 65 => ⟨S192, .i32⟩
  | 66 => ⟨S192, .i32⟩
  | 67 => ⟨S192x1, .i32⟩
  | 68 => ⟨S1, .i32⟩
  | 69 => ⟨S_, .i32⟩
  | 70 => ⟨S192x1, .i32⟩
  | 71 => ⟨S192x1, .i1⟩
  | 72 => ⟨S1x1, .i32⟩
  | 73 => ⟨S192x1, .i32⟩
  | 74 => ⟨S192x1, .i1⟩
  | 75 => ⟨S192x1, .i1⟩
  | 76 => ⟨S_, .i1⟩
  | 77 => ⟨S192, .i1⟩
  | 78 => ⟨S4x192x224x224, .f32⟩
  | 79 => ⟨S4x192x224x224, .i1⟩
  | 80 => ⟨S_, .f32⟩
  | 81 => ⟨S4x192x224x224, .f32⟩
  | 82 => ⟨S4x192x224x224, .f32⟩
  | 83 => ⟨S4x192x224x1, .f32⟩
  | 84 => ⟨S4x192x224x223, .f32⟩
  | 85 => ⟨S4x192x224x224, .f32⟩
  | 86 => ⟨S192, .i32⟩
  | 87 => ⟨S_, .i32⟩
  | 88 => ⟨S192, .i32⟩
  | 89 => ⟨S192, .i1⟩
  | 90 => ⟨S_, .i32⟩
  | 91 => ⟨S192, .i32⟩
  | 92 => ⟨S192, .i32⟩
  | 93 => ⟨S192, .i32⟩
  | 94 => ⟨S192x1, .i32⟩
  | 95 => ⟨S1, .i32⟩
  | 96 => ⟨S_, .i32⟩
  | 97 => ⟨S192x1, .i32⟩
  | 98 => ⟨S192x1, .i1⟩
  | 99 => ⟨S1x1, .i32⟩
  | 100 => ⟨S192x1, .i32⟩
  | 101 => ⟨S192x1, .i1⟩
  | 102 => ⟨S192x1, .i1⟩
  | 103 => ⟨S_, .i1⟩
  | 104 => ⟨S192, .i1⟩
  | 105 => ⟨S4x192x224x224, .f32⟩
  | 106 => ⟨S4x192x224x224, .i1⟩
  | 107 => ⟨S_, .f32⟩
  | 108 => ⟨S4x192x224x224, .f32⟩
  | 109 => ⟨S4x192x224x224, .f32⟩
  | 110 => ⟨S4x192x224x223, .f32⟩
  | 111 => ⟨S4x192x224x1, .f32⟩
  | 112 => ⟨S4x192x224x224, .f32⟩
  | 113 => ⟨S4x768x224x224, .f32⟩
  | 114 => ⟨S_, .i32⟩
  | 115 => ⟨S768, .i32⟩
  | 116 => ⟨S768, .i1⟩
  | 117 => ⟨S_, .i32⟩
  | 118 => ⟨S768, .i32⟩
  | 119 => ⟨S768, .i32⟩
  | 120 => ⟨S768, .i32⟩
  | 121 => ⟨S768x1, .i32⟩
  | 122 => ⟨S1, .i32⟩
  | 123 => ⟨S_, .i32⟩
  | 124 => ⟨S768x1, .i32⟩
  | 125 => ⟨S768x1, .i1⟩
  | 126 => ⟨S1x1, .i32⟩
  | 127 => ⟨S768x1, .i32⟩
  | _ => ⟨S4x768x224x224, .f32⟩

abbrev hbmTy0_1 (i : Nat) : BufTy := match i % 128 with
  | 0 => ⟨S768x1, .i1⟩
  | 1 => ⟨S768x1, .i1⟩
  | 2 => ⟨S_, .i1⟩
  | 3 => ⟨S768, .i1⟩
  | 4 => ⟨S4x768x224x224, .f32⟩
  | 5 => ⟨S4x768x224x224, .i1⟩
  | 6 => ⟨S_, .f32⟩
  | 7 => ⟨S4x768x224x224, .f32⟩
  | 8 => ⟨S4x768x224x224, .f32⟩
  | _ => ⟨S4x768x224x224, .f32⟩

abbrev hbmTy (i : Nat) : BufTy := match i / 128 with
  | 0 => hbmTy0_0 i
  | 1 => hbmTy0_1 i
  | _ => ⟨S4x768x224x224, .f32⟩

abbrev bufTy : (tb : Table) → Fin (tcTables nBuf tb) → BufTy
  | .hbm, ⟨i, _⟩ => hbmTy i
  | _, _ => ⟨S4x768x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_v0 : Ref sig .tc := ⟨.hbm, 29, rfl⟩
abbrev main_call2_v1 : Ref sig .tc := ⟨.hbm, 30, rfl⟩
abbrev main_v3 : Ref sig .tc := ⟨.hbm, 31, rfl⟩
abbrev main_v4 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_v14 : Ref sig .tc := ⟨.hbm, 52, rfl⟩
abbrev main_call3_cst : Ref sig .tc := ⟨.hbm, 53, rfl⟩
abbrev main_call3_v15 : Ref sig .tc := ⟨.hbm, 54, rfl⟩
abbrev main_v5 : Ref sig .tc := ⟨.hbm, 55, rfl⟩
abbrev main_call4_v0 : Ref sig .tc := ⟨.hbm, 56, rfl⟩
abbrev main_call4_v1 : Ref sig .tc := ⟨.hbm, 57, rfl⟩
abbrev main_v6 : Ref sig .tc := ⟨.hbm, 58, rfl⟩
abbrev main_v7 : Ref sig .tc := ⟨.hbm, 59, rfl⟩
abbrev main_call5_c : Ref sig .tc := ⟨.hbm, 60, rfl⟩
abbrev main_call5_v0 : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_c_1 : Ref sig .tc := ⟨.hbm, 68, rfl⟩
abbrev main_call5_c_2 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_c_3 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_call5_cst : Ref sig .tc := ⟨.hbm, 80, rfl⟩
abbrev main_call5_v15 : Ref sig .tc := ⟨.hbm, 81, rfl⟩
abbrev main_v8 : Ref sig .tc := ⟨.hbm, 82, rfl⟩
abbrev main_call6_v0 : Ref sig .tc := ⟨.hbm, 83, rfl⟩
abbrev main_call6_v1 : Ref sig .tc := ⟨.hbm, 84, rfl⟩
abbrev main_v9 : Ref sig .tc := ⟨.hbm, 85, rfl⟩
abbrev main_v10 : Ref sig .tc := ⟨.hbm, 86, rfl⟩
abbrev main_call7_c : Ref sig .tc := ⟨.hbm, 87, rfl⟩
abbrev main_call7_v0 : Ref sig .tc := ⟨.hbm, 88, rfl⟩
abbrev main_call7_v1 : Ref sig .tc := ⟨.hbm, 89, rfl⟩
abbrev main_call7_c_0 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_call7_v5 : Ref sig .tc := ⟨.hbm, 94, rfl⟩
abbrev main_call7_c_1 : Ref sig .tc := ⟨.hbm, 95, rfl⟩
abbrev main_call7_c_2 : Ref sig .tc := ⟨.hbm, 96, rfl⟩
abbrev main_call7_v6 : Ref sig .tc := ⟨.hbm, 97, rfl⟩
abbrev main_call7_v7 : Ref sig .tc := ⟨.hbm, 98, rfl⟩
abbrev main_call7_v8 : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_c_3 : Ref sig .tc := ⟨.hbm, 103, rfl⟩
abbrev main_call7_v12 : Ref sig .tc := ⟨.hbm, 104, rfl⟩
abbrev main_call7_v13 : Ref sig .tc := ⟨.hbm, 105, rfl⟩
abbrev main_call7_v14 : Ref sig .tc := ⟨.hbm, 106, rfl⟩
abbrev main_call7_cst : Ref sig .tc := ⟨.hbm, 107, rfl⟩
abbrev main_call7_v15 : Ref sig .tc := ⟨.hbm, 108, rfl⟩
abbrev main_v11 : Ref sig .tc := ⟨.hbm, 109, rfl⟩
abbrev main_call8_v0 : Ref sig .tc := ⟨.hbm, 110, rfl⟩
abbrev main_call8_v1 : Ref sig .tc := ⟨.hbm, 111, rfl⟩
abbrev main_v12 : Ref sig .tc := ⟨.hbm, 112, rfl⟩
abbrev main_v13 : Ref sig .tc := ⟨.hbm, 113, rfl⟩
abbrev main_call9_c : Ref sig .tc := ⟨.hbm, 114, rfl⟩
abbrev main_call9_v0 : Ref sig .tc := ⟨.hbm, 115, rfl⟩
abbrev main_call9_v1 : Ref sig .tc := ⟨.hbm, 116, rfl⟩
abbrev main_call9_c_0 : Ref sig .tc := ⟨.hbm, 117, rfl⟩
abbrev main_call9_v2 : Ref sig .tc := ⟨.hbm, 118, rfl⟩
abbrev main_call9_v3 : Ref sig .tc := ⟨.hbm, 119, rfl⟩
abbrev main_call9_v4 : Ref sig .tc := ⟨.hbm, 120, rfl⟩
abbrev main_call9_v5 : Ref sig .tc := ⟨.hbm, 121, rfl⟩
abbrev main_call9_c_1 : Ref sig .tc := ⟨.hbm, 122, rfl⟩
abbrev main_call9_c_2 : Ref sig .tc := ⟨.hbm, 123, rfl⟩
abbrev main_call9_v6 : Ref sig .tc := ⟨.hbm, 124, rfl⟩
abbrev main_call9_v7 : Ref sig .tc := ⟨.hbm, 125, rfl⟩
abbrev main_call9_v8 : Ref sig .tc := ⟨.hbm, 126, rfl⟩
abbrev main_call9_v9 : Ref sig .tc := ⟨.hbm, 127, rfl⟩
abbrev main_call9_v10 : Ref sig .tc := ⟨.hbm, 128, rfl⟩
abbrev main_call9_v11 : Ref sig .tc := ⟨.hbm, 129, rfl⟩
abbrev main_call9_c_3 : Ref sig .tc := ⟨.hbm, 130, rfl⟩
abbrev main_call9_v12 : Ref sig .tc := ⟨.hbm, 131, rfl⟩
abbrev main_call9_v13 : Ref sig .tc := ⟨.hbm, 132, rfl⟩
abbrev main_call9_v14 : Ref sig .tc := ⟨.hbm, 133, rfl⟩
abbrev main_call9_cst : Ref sig .tc := ⟨.hbm, 134, rfl⟩
abbrev main_call9_v15 : Ref sig .tc := ⟨.hbm, 135, rfl⟩
abbrev main_v14 : Ref sig .tc := ⟨.hbm, 136, rfl⟩

abbrev nD : Nat := 1
abbrev τ : Topo := Topo.v7x

variable {F : FTy → Type} [FloatOps F]
-- ==== Proof.Names.lean ====
module

public import proofs.«01_k».proof.Defs
public import proofs.«01_k».proof.Proof.Gen.KernelIdeal.Launch
public import proofs.«01_k».proof.Proof.Gen.KernelIdeal.Skeleton
public import Idealize.ShloMosaic.Lib.ValueIdx
public import Idealize.ShloMosaic.Lib.Ring
public import Idealize.ShloMosaic.Lib.Transfers

@[expose] public section

set_option maxRecDepth 16384

/-!
# The pieces of memory the kernel names

The launch walks 384 blocks; block `b` is eight channels of one image. It lies at `blkOff b` in the operand and in the
result. The kernel's buffer is a ring of sixteen slots; point `t` works in slot `t % 16`. Every offset the kernel
computes from its grid coordinate is one of the closed forms of this module.
-/

noncomputable section

namespace Cert.Proof.Roll

open Cert.KernelIdeal Cert.KernelIdeal.Gen
open Idealize.ShloMosaic
open Idealize.ShloMosaic.ValueIdx (ix1 ix2 ix3 ix4)

/-- The label table in scalar memory. -/
abbrev tabM : Memref sig .tc .smem S768 .i32 := Memref.whole main_v9
/-- The operand. -/
abbrev xM : Memref sig .tc .hbm S4x768x224x224 .f32 := Memref.whole main_arg0
/-- The result. -/
abbrev oM : Memref sig .tc .hbm S4x768x224x224 .f32 := Memref.whole main_v10
/-- The ring of slots. -/
abbrev bufM : Memref sig .tc .vmem S16x8x224x224 .f32 := Memref.whole cc0_scratch0

/-- Slot `n % 16`. -/
abbrev sl (n : ℕ) : Fin 16 := ⟨n % 16, Nat.mod_lt _ (by decide)⟩
/-- Block `n % 384`. -/
abbrev bk (n : ℕ) : Fin 384 := ⟨n % 384, Nat.mod_lt _ (by decide)⟩

/-- Where block `b` starts. -/
abbrev blkOff (b : Fin 384) : Fin 4 → ℕ := ![b.val / 96, b.val % 96 * 8, 0, 0]
/-- Where slot `s` starts. -/
abbrev slotOff (s : Fin 16) : Fin 4 → ℕ := ![s.val, 0, 0, 0]
/-- Where channel `i` of slot `s` starts. -/
abbrev chOff (s : Fin 16) (i : Fin 8) : Fin 4 → ℕ := ![s.val, i.val, 0, 0]
/-- The position of slot `s`'s semaphore in its array. -/
abbrev semOff (s : Fin 16) : Fin 1 → ℕ := ![s.val]
/-- The position of the label of channel `i` of block `b` in the table. -/
abbrev labOff (b : Fin 384) (i : Fin 8) : Fin 1 → ℕ := ![b.val % 96 * 8 + i.val]

theorem blkOff_inb (b : Fin 384) : ∀ a, blkOff b a + S1x8x224x224.size a ≤ S4x768x224x224.size a := by
  intro a
  have hb := b.isLt
  fin_cases a
  · show b.val / 96 + 1 ≤ 4; omega
  · show b.val % 96 * 8 + 8 ≤ 768; omega
  · show 0 + 224 ≤ 224; omega
  · show 0 + 224 ≤ 224; omega

theorem slotOff_inb (s : Fin 16) : ∀ a, slotOff s a + S1x8x224x224.size a ≤ S16x8x224x224.size a := by
  intro a
  have hs := s.isLt
  fin_cases a
  · show s.val + 1 ≤ 16; omega
  · show 0 + 8 ≤ 8; omega
  · show 0 + 224 ≤ 224; omega
  · show 0 + 224 ≤ 224; omega

theorem semOff_inb (s : Fin 16) : ∀ a, semOff s a + S1.size a ≤ S16.size a := by
  intro a
  have hs := s.isLt
  fin_cases a
  show s.val + 1 ≤ 16; omega

/-- The eight channels of the operand that start at `off`. -/
abbrev xAt (off : Fin 4 → ℕ) (h : ∀ a, off a + S1x8x224x224.size a ≤ S4x768x224x224.size a) : Memref sig .tc .hbm S8x224x224 .f32 :=
  (xM.slice (Rect.unit (s := S4x768x224x224) off S1x8x224x224.size h) (fun _ => rfl)).squeeze S8x224x224 squeezes_S1x8x224x224_S8x224x224
/-- The eight channels of the result that start at `off`. -/
abbrev oAt (off : Fin 4 → ℕ) (h : ∀ a, off a + S1x8x224x224.size a ≤ S4x768x224x224.size a) : Memref sig .tc .hbm S8x224x224 .f32 :=
  (oM.slice (Rect.unit (s := S4x768x224x224) off S1x8x224x224.size h) (fun _ => rfl)).squeeze S8x224x224 squeezes_S1x8x224x224_S8x224x224
/-- The slot that starts at `off`. -/
abbrev slotAt (off : Fin 4 → ℕ) (h : ∀ a, off a + S1x8x224x224.size a ≤ S16x8x224x224.size a) : Memref sig .tc .vmem S8x224x224 .f32 :=
  (bufM.slice (Rect.unit (s := S16x8x224x224) off S1x8x224x224.size h) (fun _ => rfl)).squeeze S8x224x224 squeezes_S1x8x224x224_S8x224x224
/-- The semaphore of the copies into the buffer at `off`. -/
abbrev isemAt (off : Fin 1 → ℕ) (h : ∀ a, off a + S1.size a ≤ S16.size a) : DmaSems sig S_ :=
  (cc0_scratch1.slice (Rect.unit (s := S16) off S1.size h)).squeeze S_ squeezes_S1_S_
/-- The semaphore of the copies out of the buffer at `off`. -/
abbrev osemAt (off : Fin 1 → ℕ) (h : ∀ a, off a + S1.size a ≤ S16.size a) : DmaSems sig S_ :=
  (cc0_scratch2.slice (Rect.unit (s := S16) off S1.size h)).squeeze S_ squeezes_S1_S_

/-- Block `b` of the operand. -/
abbrev xBlk (b : Fin 384) : Memref sig .tc .hbm S8x224x224 .f32 := xAt (blkOff b) (blkOff_inb b)
/-- Block `b` of the result. -/
abbrev oBlk (b : Fin 384) : Memref sig .tc .hbm S8x224x224 .f32 := oAt (blkOff b) (blkOff_inb b)
/-- Slot `s`. -/
abbrev slot (s : Fin 16) : Memref sig .tc .vmem S8x224x224 .f32 := slotAt (slotOff s) (slotOff_inb s)
/-- Slot `s`'s semaphore for copies in. -/
abbrev isem (s : Fin 16) : SemLoc sig := .dma (isemAt (semOff s) (semOff_inb s)).sem
/-- Slot `s`'s semaphore for copies out. -/
abbrev osem (s : Fin 16) : SemLoc sig := .dma (osemAt (semOff s) (semOff_inb s)).sem

/-! ## Where a block's and a slot's elements lie -/

/-- The place of element `j` of the eight channels that start at `off`, in a tensor whose leading axes those are. -/
theorem emb_squeeze {n0 n1 : ℕ} {sp : Space} (M : Memref sig .tc sp ⟨4, ![n0, n1, 224, 224]⟩ .f32) (off : Fin 4 → ℕ)
    (h : ∀ a, off a + S1x8x224x224.size a ≤ (⟨4, ![n0, n1, 224, 224]⟩ : Shape).size a) (hr) (j : S8x224x224.Idx) :
    ((M.slice (Rect.unit (s := ⟨4, ![n0, n1, 224, 224]⟩) off S1x8x224x224.size h) hr).squeeze S8x224x224 squeezes_S1x8x224x224_S8x224x224).view.emb j
      = M.view.emb ((Rect.unit (s := ⟨4, ![n0, n1, 224, 224]⟩) off S1x8x224x224.size h).emb (Fin.cons ⟨0, Nat.one_pos⟩ j)) := by
  have h1 : ((M.slice (Rect.unit (s := ⟨4, ![n0, n1, 224, 224]⟩) off S1x8x224x224.size h) hr).squeeze S8x224x224 squeezes_S1x8x224x224_S8x224x224).view.emb j
      = M.view.emb ((Rect.unit (s := ⟨4, ![n0, n1, 224, 224]⟩) off S1x8x224x224.size h).emb
          (Shape.reshapeEquiv squeezes_S1x8x224x224_S8x224x224.numel_eq j)) := rfl
  rw [h1, Shape.reshapeEquiv_cons_one]

/-- Element `j` of block `b`, in the whole tensor. -/
def blkIdx (b : Fin 384) (j : S8x224x224.Idx) : S4x768x224x224.Idx :=
  ix4 (⟨b.val / 96, by have := b.isLt; omega⟩ : Fin 4) (⟨b.val % 96 * 8 + (j 0).val, by have := b.isLt; have : (j 0).val < 8 := (j 0).isLt; omega⟩ : Fin 768)
    (⟨(j 1).val, (j 1).isLt⟩ : Fin 224) (⟨(j 2).val, (j 2).isLt⟩ : Fin 224)

/-- Element `j` of slot `s`, in the whole ring. -/
def slotIdx (s : Fin 16) (j : S8x224x224.Idx) : S16x8x224x224.Idx :=
  ix4 s (⟨(j 0).val, (j 0).isLt⟩ : Fin 8) (⟨(j 1).val, (j 1).isLt⟩ : Fin 224) (⟨(j 2).val, (j 2).isLt⟩ : Fin 224)

theorem xBlk_emb (b : Fin 384) (j : S8x224x224.Idx) : (xBlk b).view.emb j = blkIdx b j := by
  refine (emb_squeeze (n0 := 4) (n1 := 768) xM (blkOff b) (blkOff_inb b) (fun _ => rfl) j).trans ?_
  refine funext fun a => Fin.ext ?_
  refine (Rect.emb_apply _ _ _).trans ?_
  match a with
  | ⟨0, _⟩ => show b.val / 96 + 1 * 0 = b.val / 96; omega
  | ⟨1, _⟩ => show b.val % 96 * 8 + 1 * (j 0).val = b.val % 96 * 8 + (j 0).val; omega
  | ⟨2, _⟩ => show 0 + 1 * (j 1).val = (j 1).val; omega
  | ⟨3, _⟩ => show 0 + 1 * (j 2).val = (j 2).val; omega

theorem oBlk_emb (b : Fin 384) (j : S8x224x224.Idx) : (oBlk b).view.emb j = blkIdx b j := by
  refine (emb_squeeze (n0 := 4) (n1 := 768) oM (blkOff b) (blkOff_inb b) (fun _ => rfl) j).trans ?_
  refine funext fun a => Fin.ext ?_
  refine (Rect.emb_apply _ _ _).trans ?_
  match a with
  | ⟨0, _⟩ => show b.val / 96 + 1 * 0 = b.val / 96; omega
  | ⟨1, _⟩ => show b.val % 96 * 8 + 1 * (j 0).val = b.val % 96 * 8 + (j 0).val; omega
  | ⟨2, _⟩ => show 0 + 1 * (j 1).val = (j 1).val; omega
  | ⟨3, _⟩ => show 0 + 1 * (j 2).val = (j 2).val; omega

theorem slot_emb (s : Fin 16) (j : S8x224x224.Idx) : (slot s).view.emb j = slotIdx s j := by
  refine (emb_squeeze (n0 := 16) (n1 := 8) bufM (slotOff s) (slotOff_inb s) (fun _ => rfl) j).trans ?_
  refine funext fun a => Fin.ext ?_
  refine (Rect.emb_apply _ _ _).trans ?_
  match a with
  | ⟨0, _⟩ => show s.val + 1 * 0 = s.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega

/-! ## The block and slot sets -/

theorem mem_unit4 {n0 n1 : ℕ} (off : Fin 4 → ℕ) (h : ∀ a, off a + S1x8x224x224.size a ≤ (⟨4, ![n0, n1, 224, 224]⟩ : Shape).size a)
    (h2 : off 2 = 0) (h3 : off 3 = 0) (y : (⟨4, ![n0, n1, 224, 224]⟩ : Shape).Idx) :
    y ∈ (Rect.unit (s := ⟨4, ![n0, n1, 224, 224]⟩) off S1x8x224x224.size h).set
      ↔ (y 0).val = off 0 ∧ off 1 ≤ (y 1).val ∧ (y 1).val < off 1 + 8 := by
  rw [Rect.mem_set_unit]
  constructor
  · intro H
    have H0 := H 0
    have H1 := H 1
    change off 0 ≤ (y 0).val ∧ (y 0).val < off 0 + 1 at H0
    change off 1 ≤ (y 1).val ∧ (y 1).val < off 1 + 8 at H1
    exact ⟨by omega, H1⟩
  · rintro ⟨e0, e1⟩ a
    match a with
    | ⟨0, _⟩ => show off 0 ≤ (y 0).val ∧ (y 0).val < off 0 + 1; omega
    | ⟨1, _⟩ => exact e1
    | ⟨2, _⟩ => show off 2 ≤ (y 2).val ∧ (y 2).val < off 2 + 224; have : (y 2).val < 224 := (y 2).isLt; omega
    | ⟨3, _⟩ => show off 3 ≤ (y 3).val ∧ (y 3).val < off 3 + 224; have : (y 3).val < 224 := (y 3).isLt; omega

/-- The elements of block `b`. -/
abbrev blkSet (b : Fin 384) : Finset S4x768x224x224.Idx := (Rect.unit (s := S4x768x224x224) (blkOff b) S1x8x224x224.size (blkOff_inb b)).set
/-- The elements of slot `s`. -/
abbrev slotSet (s : Fin 16) : Finset S16x8x224x224.Idx := (Rect.unit (s := S16x8x224x224) (slotOff s) S1x8x224x224.size (slotOff_inb s)).set

theorem xBlk_set (b : Fin 384) : (xBlk b).view.set = blkSet b := (View.set_reshape _ _).trans (View.set_slice_whole _ _)
theorem oBlk_set (b : Fin 384) : (oBlk b).view.set = blkSet b := (View.set_reshape _ _).trans (View.set_slice_whole _ _)
theorem slot_set (s : Fin 16) : (slot s).view.set = slotSet s := (View.set_reshape _ _).trans (View.set_slice_whole _ _)

theorem mem_blkSet (b : Fin 384) (y : S4x768x224x224.Idx) : y ∈ blkSet b ↔ (y 0).val * 96 + (y 1).val / 8 = b.val := by
  refine (mem_unit4 (n0 := 4) (n1 := 768) (blkOff b) (blkOff_inb b) rfl rfl y).trans ?_
  show (y 0).val = b.val / 96 ∧ b.val % 96 * 8 ≤ (y 1).val ∧ (y 1).val < b.val % 96 * 8 + 8 ↔ _
  have h1 : (y 1).val < 768 := (y 1).isLt
  omega

theorem mem_slotSet (s : Fin 16) (y : S16x8x224x224.Idx) : y ∈ slotSet s ↔ (y 0).val = s.val := by
  refine (mem_unit4 (n0 := 16) (n1 := 8) (slotOff s) (slotOff_inb s) rfl rfl y).trans ?_
  show (y 0).val = s.val ∧ 0 ≤ (y 1).val ∧ (y 1).val < 0 + 8 ↔ _
  have h1 : (y 1).val < 8 := (y 1).isLt
  omega

theorem blkSet_disjoint : ∀ b b' : Fin 384, b ≠ b' → Disjoint (blkSet b) (blkSet b') := by
  intro b b' hne
  rw [Finset.disjoint_left]
  intro y h h'
  rw [mem_blkSet] at h h'
  exact hne (Fin.ext (h.symm.trans h'))
theorem blkSet_cover : (Finset.univ : Finset (Fin 384)).biUnion blkSet = Finset.univ := by
  ext y
  simp only [Finset.mem_biUnion, Finset.mem_univ, true_and, iff_true]
  have h0 : (y 0).val < 4 := (y 0).isLt
  have h1 : (y 1).val < 768 := (y 1).isLt
  exact ⟨⟨(y 0).val * 96 + (y 1).val / 8, by omega⟩, (mem_blkSet _ _).mpr rfl⟩
theorem slotSet_disjoint : ∀ s s' : Fin 16, s ≠ s' → Disjoint (slotSet s) (slotSet s') := by
  intro b b' hne
  rw [Finset.disjoint_left]
  intro y h h'
  rw [mem_slotSet] at h h'
  exact hne (Fin.ext (h.symm.trans h'))
theorem slotSet_cover : (Finset.univ : Finset (Fin 16)).biUnion slotSet = Finset.univ := by
  ext y
  simp only [Finset.mem_biUnion, Finset.mem_univ, true_and, iff_true]
  exact ⟨⟨(y 0).val, (y 0).isLt⟩, (mem_slotSet _ _).mpr rfl⟩

end Cert.Proof.Roll
-- ==== Proof.State.lean ====
module

public import proofs.«01_k».proof.Proof.Names

@[expose] public section

set_option maxRecDepth 16384

/-!
# What the core holds while the kernel runs

`target` is the tensor the kernel writes: every channel is rolled the way its label says. A slot of the ring is free, or
being filled with a block, or holds a block whose first `i` channels are rolled already, or is being copied out. A block
of the operand is at home or lent to a copy. A block of the result is not written yet, or being written, or done.
`Inv` is the ownership of all of it in a given state.
-/

noncomputable section

namespace Cert.Proof.Roll

open Cert.KernelIdeal Cert.KernelIdeal.Gen
open Idealize.ShloMosaic
open Idealize.ShloMosaic.ValueIdx (ix1 ix2 ix3 ix4)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The values -/

/-- One plane, rolled by one the way the label `l` says (a label outside 0 … 3 counts as the nearest of these). -/
def rolled (l : BitVec 32) (v : FVec F S224x224 .f32) : FVec F S224x224 .f32 :=
  let k := Scalar.minsi (Scalar.maxsi l 0#32) 3#32
  if Scalar.cmpi .ne k 0#32 = 1#1 then
    if Scalar.cmpi .ne (Scalar.subi k 1#32) 0#32 = 1#1 then
      if Scalar.cmpi .ne (Scalar.subi (Scalar.subi k 1#32) 1#32) 0#32 = 1#1 then
        dynamicRotate 1 223#32 none v rotates_S224x224_d1
      else dynamicRotate 1 1#32 none v rotates_S224x224_d1
    else dynamicRotate 0 223#32 none v rotates_S224x224_d0
  else dynamicRotate 0 1#32 none v rotates_S224x224_d0

/-- The tensor the kernel writes, from the labels `T` and the operand `X`. -/
def target (T : S768.Idx → Elt F .i32) (X : S4x768x224x224.Idx → Elt F .f32) : S4x768x224x224.Idx → Elt F .f32 := fun z =>
  rolled (T (ix1 (⟨(z 1).val, (z 1).isLt⟩ : Fin 768)))
    (fun p => X (ix4 (⟨(z 0).val, (z 0).isLt⟩ : Fin 4) (⟨(z 1).val, (z 1).isLt⟩ : Fin 768) (⟨(p 0).val, (p 0).isLt⟩ : Fin 224) (⟨(p 1).val, (p 1).isLt⟩ : Fin 224)))
    (ix2 (⟨(z 2).val, (z 2).isLt⟩ : Fin 224) (⟨(z 3).val, (z 3).isLt⟩ : Fin 224))

/-- A place of the ring, within its slot. -/
def inSlot (y : S16x8x224x224.Idx) : S8x224x224.Idx :=
  ix3 (⟨(y 1).val, (y 1).isLt⟩ : Fin 8) (⟨(y 2).val, (y 2).isLt⟩ : Fin 224) (⟨(y 3).val, (y 3).isLt⟩ : Fin 224)

theorem inSlot_slotIdx (s : Fin 16) (j : S8x224x224.Idx) : inSlot (slotIdx s j) = j := by
  refine funext fun a => Fin.ext ?_
  match a with
  | ⟨0, _⟩ => rfl
  | ⟨1, _⟩ => rfl
  | ⟨2, _⟩ => rfl

/-- A slot that holds block `b` with its first `i` channels rolled. -/
def mixed (T : S768.Idx → Elt F .i32) (X : S4x768x224x224.Idx → Elt F .f32) (b : Fin 384) (i : ℕ) : S16x8x224x224.Idx → Elt F .f32 := fun y =>
  if (y 1).val < i then target T X (blkIdx b (inSlot y)) else X (blkIdx b (inSlot y))

/-! ## The states -/

/-- The state of a slot. -/
inductive SlotSt where
  | free
  | inn (b : Fin 384)
  | mid (b : Fin 384) (i : ℕ)
  | out (b : Fin 384)
deriving DecidableEq

/-- The state of a block of the result. -/
inductive OutSt where
  | raw
  | flying
  | done
deriving DecidableEq

/-- The state of everything: the slots, which operand blocks are at home, the result's blocks. -/
structure St where
  ring : Fin 16 → SlotSt
  xs : Fin 384 → Bool
  os : Fin 384 → OutSt

/-! ## The ownership -/

abbrev UU (nD : Nat) (τ : Topo) : Type := UR sig nD τ × Counters
local notation "𝕄" => MT nD τ sig Unit (Elt F) ℕ (UU nD τ) ℕ
abbrev 𝒱₀ : Variants := Variants.none

variable (c : Dev nD) (T : S768.Idx → Elt F .i32) (X : S4x768x224x224.Idx → Elt F .f32)

/-- Slot `s`, holding `f`. -/
abbrev slotP (s : Fin 16) (f : S16x8x224x224.Idx → Elt F .f32) : sProp 𝕄 :=
  (slot s).view.loc (c : Thread nD τ) ↦[(slot s).view.set]{fullShare} f
/-- Block `b` of the operand, at home. -/
abbrev xP (b : Fin 384) : sProp 𝕄 := (xBlk b).view.loc (c : Thread nD τ) ↦[(xBlk b).view.set]{fullShare} X
/-- Block `b` of the result, holding `f`. -/
abbrev oP (b : Fin 384) (f : S4x768x224x224.Idx → Elt F .f32) : sProp 𝕄 :=
  (oBlk b).view.loc (c : Thread nD τ) ↦[(oBlk b).view.set]{fullShare} f
/-- Slot `s`'s counter of copies in, at zero. -/
abbrev iZ (s : Fin 16) : sProp 𝕄 := semVal ((c : Thread nD τ), isem s) 0
/-- Slot `s`'s counter of copies out, at zero. -/
abbrev oZ (s : Fin 16) : sProp 𝕄 := semVal ((c : Thread nD τ), osem s) 0
/-- The label table, half of it (the launch keeps the other half). -/
abbrev tabP : sProp 𝕄 := (tabM.view.loc (c : Thread nD τ)) ↦[Finset.univ]{fullShare.right} T

/-- What a copy into a slot adds to its counter. -/
def inAmount : ℕ := (slot 0).view.dmaCredit
/-- What a copy out of a slot adds to its counter. -/
def outAmount : ℕ := (oBlk 0).view.dmaCredit

theorem inAmount_eq (s : Fin 16) : (slot s).view.dmaCredit = inAmount := rfl
theorem outAmount_eq (b : Fin 384) : (oBlk b).view.dmaCredit = outAmount := rfl
theorem inAmount_pos : 0 < inAmount := View.dmaCredit_pos _ (by decide)
theorem outAmount_pos : 0 < outAmount := View.dmaCredit_pos _ (by decide)

/-- Slot `s` being filled with block `b`. -/
abbrev inFlight (s : Fin 16) (b : Fin 384) : sProp 𝕄 :=
  Transfers.Flight countersEmb (c : Thread nD τ) (isem s) () inAmount iprop(slotP c s (mixed T X b 0) ∗ xP c X b)
/-- Slot `s` being copied out to block `b`. -/
abbrev outFlight (s : Fin 16) (b : Fin 384) : sProp 𝕄 :=
  Transfers.Flight countersEmb (c : Thread nD τ) (osem s) () outAmount iprop(oP c b (target T X) ∗ slotP c s (mixed T X b 8))

/-- A slot in its state. -/
def Φring (s : Fin 16) : SlotSt → sProp 𝕄
  | .free => iprop((∃ f, slotP c s f) ∗ iZ c s ∗ oZ c s)
  | .inn b => iprop(inFlight c T X s b ∗ oZ c s)
  | .mid b i => iprop(slotP c s (mixed T X b i) ∗ iZ c s ∗ oZ c s)
  | .out b => iprop(outFlight c T X s b ∗ iZ c s)

/-- An operand block in its state. -/
def Φx (b : Fin 384) : Bool → sProp 𝕄
  | true => xP c X b
  | false => iprop(emp)

/-- A result block in its state. -/
def Φo (b : Fin 384) : OutSt → sProp 𝕄
  | .raw => iprop(∃ f, oP c b f)
  | .flying => iprop(emp)
  | .done => oP c b (target T X)

/-- Everything the core holds in state `σ`, beside `R`. -/
def Inv (R : sProp 𝕄) (σ : St) : sProp 𝕄 :=
  iprop(Ring.AtW (Φring c T X) σ.ring ∗ Ring.AtW (Φx c X) σ.xs ∗ Ring.AtW (Φo c T X) σ.os
    ∗ tabP c T ∗ (∃ W, owes (c : Thread nD τ) 0 W) ∗ R)

end Cert.Proof.Roll
-- ==== Proof.Steps.lean ====
module

public import proofs.«01_k».proof.Proof.State

@[expose] public section

set_option maxRecDepth 16384

/-!
# The copies

One lemma for each of the four transfer operations of the kernel: what it does to the state. The memory the operation
names is given by its offsets, with equations saying which slot and which block these are.
-/

noncomputable section

namespace Cert.Proof.Roll

open Cert.KernelIdeal Cert.KernelIdeal.Gen
open Idealize.ShloMosaic
open Idealize.ShloMosaic.ValueIdx (ix1 ix2 ix3 ix4)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (T : S768.Idx → Elt F .i32) (X : S4x768x224x224.Idx → Elt F .f32)

/-- The state with slot `s` in state `x`. -/
def St.setRing (σ : St) (s : Fin 16) (x : SlotSt) : St := { σ with ring := Function.update σ.ring s x }
/-- The state with operand block `b` at home, or not. -/
def St.setX (σ : St) (b : Fin 384) (x : Bool) : St := { σ with xs := Function.update σ.xs b x }
/-- The state with result block `b` in state `x`. -/
def St.setO (σ : St) (b : Fin 384) (x : OutSt) : St := { σ with os := Function.update σ.os b x }

/-! ## What a copy leaves -/

/-- A slot overwritten with block `b` of the operand is the slot with no channel rolled yet. -/
theorem slotP_landed (s : Fin 16) (b : Fin 384) (f : S16x8x224x224.Idx → Elt F .f32) :
    ((slot s).view.loc (c : Thread nD τ) ↦[(slot s).view.set]{fullShare}
        ((slot s).view.write (Elt F) f (ReadAs.same.apply ((xBlk b).view.read (Elt F) X)) Finset.univ) : sProp 𝕄)
      = slotP c s (mixed T X b 0) := by
  unfold slotP
  refine pointsTo_congr fun i hi => ?_
  obtain ⟨j, -, rfl⟩ := Finset.mem_map.mp hi
  refine (View.write_emb_of_mem (v := (slot s).view) f _ (Finset.mem_univ j)).trans ?_
  rw [slot_emb]
  unfold mixed
  rw [if_neg (Nat.not_lt_zero _), inSlot_slotIdx, ← xBlk_emb]
  rfl

/-- A result block overwritten with a slot whose channels are all rolled is done. -/
theorem oP_landed (s : Fin 16) (b : Fin 384) (f : S4x768x224x224.Idx → Elt F .f32) :
    ((oBlk b).view.loc (c : Thread nD τ) ↦[(oBlk b).view.set]{fullShare}
        ((oBlk b).view.write (Elt F) f (ReadAs.same.apply ((slot s).view.read (Elt F) (mixed T X b 8))) Finset.univ) : sProp 𝕄)
      = oP c b (target T X) := by
  unfold oP
  refine pointsTo_congr fun i hi => ?_
  obtain ⟨j, -, rfl⟩ := Finset.mem_map.mp hi
  refine (View.write_emb_of_mem (v := (oBlk b).view) f _ (Finset.mem_univ j)).trans ?_
  refine Eq.trans (b := mixed T X b 8 ((slot s).view.emb j)) rfl ?_
  rw [slot_emb, oBlk_emb]
  unfold mixed
  rw [if_pos, inSlot_slotIdx]
  exact (j 0).isLt

/-! ## The four operations -/

section Ops
variable {σ : St} {α : Type} {k : PUnit → Prog (TpuEff nD τ sig (Elt F) Λ₀ .tc) α}

/-- Starting the copy of block `b` into the free slot `s`. -/
theorem wp_inStart (s : Fin 16) (b : Fin 384) {o1 : Fin 1 → ℕ} {o2 o3 : Fin 4 → ℕ} {h1 h2 h3 w1 w2 w3} {R : sProp 𝕄} {Q : α → sProp 𝕄}
    (e1 : o1 = semOff s) (e2 : o2 = slotOff s) (e3 : o3 = blkOff b) (hs : σ.ring s = .free) (hb : σ.xs b = true)
    (hk : Inv c T X R ((σ.setRing s (.inn b)).setX b false) ⊢ wp frame (wpE (defs₀ (F := F)) 𝒱₀ (c : Thread nD τ) none) Set.univ (k ⟨⟩) Q) :
    Inv c T X R σ ⊢ wp frame (wpE (defs₀ (F := F)) 𝒱₀ (c : Thread nD τ) none) Set.univ
      (.op (.enqueueDma (xAt o3 h3) (.here (slotAt o2 h2)) (.dma (isemAt o1 h1).sem) w1 w2 w3) k) Q := by
  subst e1 e2 e3
  unfold Inv
  rw [Ring.AtW_focus (Φring c T X) σ.ring s, Ring.AtW_focus (Φx c X) σ.xs b, hs, hb]
  simp only [Φring, Φx]
  iintro ⟨⟨⟨⟨%f, Hs⟩, Hi, Ho⟩, Hring⟩, ⟨Hx, Hxs⟩, Hos, Ht, Hw, HR⟩
  iapply (Transfers.wp_dmaLocal countersEmb 𝒱₀ (c : Thread nD τ) none (src := xBlk b) (dst := slot s) (sm := isem s) (fs := X) (fd := f) (q := fullShare)
    () inAmount (inAmount_eq s) inAmount_pos (Finset.Subset.refl _)) $$ [Hx Hs Hi]
  · isplitl [Hx]; · iexact Hx
    isplitl [Hs]; · iexact Hs
    iexact Hi
  iintro HF
  iapply hk
  unfold Inv St.setX St.setRing
  isplitl [HF Ho Hring]
  · iapply (Ring.AtW_update (Φring c T X) σ.ring s (.inn b))
    isplitl [HF Ho]
    · simp only [Φring]
      isplitl [HF]
      · unfold inFlight xP
        irw [← slotP_landed c T X s b f]
        iexact HF
      iexact Ho
    iexact Hring
  isplitl [Hxs]
  · iapply (Ring.AtW_update (Φx c X) σ.xs b false)
    isplitr; · simp only [Φx, Φo]; iempintro
    iexact Hxs
  isplitl [Hos]; · iexact Hos
  isplitl [Ht]; · iexact Ht
  isplitl [Hw]; · iexact Hw
  iexact HR

/-- Waiting for block `b` to have arrived in slot `s`. -/
theorem wp_inWait (s : Fin 16) (b : Fin 384) {o1 : Fin 1 → ℕ} {o2 o3 : Fin 4 → ℕ} {h1 h2 h3 w1 w2} {R : sProp 𝕄} {Q : α → sProp 𝕄}
    (e1 : o1 = semOff s) (e2 : o2 = slotOff s) (e3 : o3 = blkOff b) (hs : σ.ring s = .inn b) (hb : σ.xs b = false)
    (hk : Inv c T X R ((σ.setRing s (.mid b 0)).setX b true) ⊢ wp frame (wpE (defs₀ (F := F)) 𝒱₀ (c : Thread nD τ) none) Set.univ (k ⟨⟩) Q) :
    Inv c T X R σ ⊢ wp frame (wpE (defs₀ (F := F)) 𝒱₀ (c : Thread nD τ) none) Set.univ
      (.op (.waitDma2 (isemAt o1 h1).sem (xAt o3 h3) (slotAt o2 h2) w1 w2) k) Q := by
  subst e1 e2 e3
  unfold Inv
  rw [Ring.AtW_focus (Φring c T X) σ.ring s, Ring.AtW_focus (Φx c X) σ.xs b, hs, hb]
  simp only [Φring, Φx]
  iintro ⟨⟨⟨HF, Ho⟩, Hring⟩, ⟨-, Hxs⟩, Hos, Ht, ⟨%W, Hw⟩, HR⟩
  iapply (Transfers.wp_waitLocal countersEmb 𝒱₀ (c : Thread nD τ) none (dstw := slot s) () (inAmount_eq s)) $$ [HF Hw]
  · isplitl [HF]; · iexact HF
    iexact Hw
  iintro ⟨⟨Hs, Hx⟩, Hi, Hw⟩
  iapply hk
  unfold Inv St.setX St.setRing
  isplitl [Hs Hi Ho Hring]
  · iapply (Ring.AtW_update (Φring c T X) σ.ring s (.mid b 0))
    isplitl [Hs Hi Ho]
    · simp only [Φring]
      isplitl [Hs]; · iexact Hs
      isplitl [Hi]; · iexact Hi
      iexact Ho
    iexact Hring
  isplitl [Hx Hxs]
  · iapply (Ring.AtW_update (Φx c X) σ.xs b true)
    isplitl [Hx]; · simp only [Φx]; iexact Hx
    iexact Hxs
  isplitl [Hos]; · iexact Hos
  isplitl [Ht]; · iexact Ht
  isplitl [Hw]; · iexists _; iexact Hw
  iexact HR

/-- Starting the copy of the finished slot `s` out to block `b`. -/
theorem wp_outStart (s : Fin 16) (b : Fin 384) {o1 : Fin 1 → ℕ} {o2 o3 : Fin 4 → ℕ} {h1 h2 h3 w1 w2 w3} {R : sProp 𝕄} {Q : α → sProp 𝕄}
    (e1 : o1 = semOff s) (e2 : o2 = slotOff s) (e3 : o3 = blkOff b) (hs : σ.ring s = .mid b 8) (hb : σ.os b = .raw)
    (hk : Inv c T X R ((σ.setRing s (.out b)).setO b .flying) ⊢ wp frame (wpE (defs₀ (F := F)) 𝒱₀ (c : Thread nD τ) none) Set.univ (k ⟨⟩) Q) :
    Inv c T X R σ ⊢ wp frame (wpE (defs₀ (F := F)) 𝒱₀ (c : Thread nD τ) none) Set.univ
      (.op (.enqueueDma (slotAt o2 h2) (.here (oAt o3 h3)) (.dma (osemAt o1 h1).sem) w1 w2 w3) k) Q := by
  subst e1 e2 e3
  unfold Inv
  rw [Ring.AtW_focus (Φring c T X) σ.ring s, Ring.AtW_focus (Φo c T X) σ.os b, hs, hb]
  simp only [Φring, Φo]
  iintro ⟨⟨⟨Hs, Hi, Ho⟩, Hring⟩, Hxs, ⟨⟨%f, HO⟩, Hos⟩, Ht, Hw, HR⟩
  iapply (Transfers.wp_dmaLocal countersEmb 𝒱₀ (c : Thread nD τ) none (src := slot s) (dst := oBlk b) (sm := osem s) (fs := mixed T X b 8) (fd := f) (q := fullShare)
    () outAmount (outAmount_eq b) outAmount_pos (Finset.Subset.refl _)) $$ [HO Hs Ho]
  · isplitl [Hs]; · iexact Hs
    isplitl [HO]; · iexact HO
    iexact Ho
  iintro HF
  iapply hk
  unfold Inv St.setO St.setRing
  isplitl [HF Hi Hring]
  · iapply (Ring.AtW_update (Φring c T X) σ.ring s (.out b))
    isplitl [HF Hi]
    · simp only [Φring]
      isplitl [HF]
      · unfold outFlight slotP
        irw [← oP_landed c T X s b f]
        iexact HF
      iexact Hi
    iexact Hring
  isplitl [Hxs]; · iexact Hxs
  isplitl [Hos]
  · iapply (Ring.AtW_update (Φo c T X) σ.os b .flying)
    isplitr; · simp only [Φx, Φo]; iempintro
    iexact Hos
  isplitl [Ht]; · iexact Ht
  isplitl [Hw]; · iexact Hw
  iexact HR

/-- Waiting for the copy of slot `s` out to block `b` to have ended. -/
theorem wp_outWait (s : Fin 16) (b : Fin 384) {o1 : Fin 1 → ℕ} {o2 o3 : Fin 4 → ℕ} {h1 h2 h3 w1 w2} {R : sProp 𝕄} {Q : α → sProp 𝕄}
    (e1 : o1 = semOff s) (e2 : o2 = slotOff s) (e3 : o3 = blkOff b) (hs : σ.ring s = .out b) (hb : σ.os b = .flying)
    (hk : Inv c T X R ((σ.setRing s .free).setO b .done) ⊢ wp frame (wpE (defs₀ (F := F)) 𝒱₀ (c : Thread nD τ) none) Set.univ (k ⟨⟩) Q) :
    Inv c T X R σ ⊢ wp frame (wpE (defs₀ (F := F)) 𝒱₀ (c : Thread nD τ) none) Set.univ
      (.op (.waitDma2 (osemAt o1 h1).sem (slotAt o2 h2) (oAt o3 h3) w1 w2) k) Q := by
  subst e1 e2 e3
  unfold Inv
  rw [Ring.AtW_focus (Φring c T X) σ.ring s, Ring.AtW_focus (Φo c T X) σ.os b, hs, hb]
  simp only [Φring, Φo]
  iintro ⟨⟨⟨HF, Hi⟩, Hring⟩, Hxs, ⟨-, Hos⟩, Ht, ⟨%W, Hw⟩, HR⟩
  iapply (Transfers.wp_waitLocal countersEmb 𝒱₀ (c : Thread nD τ) none (dstw := oBlk b) () (outAmount_eq b)) $$ [HF Hw]
  · isplitl [HF]; · iexact HF
    iexact Hw
  iintro ⟨⟨HO, Hs⟩, Ho, Hw⟩
  iapply hk
  unfold Inv St.setO St.setRing
  isplitl [Hs Hi Ho Hring]
  · iapply (Ring.AtW_update (Φring c T X) σ.ring s .free)
    isplitl [Hs Hi Ho]
    · simp only [Φring]
      isplitl [Hs]; · iexists _; iexact Hs
      isplitl [Hi]; · iexact Hi
      iexact Ho
    iexact Hring
  isplitl [Hxs]; · iexact Hxs
  isplitl [HO Hos]
  · iapply (Ring.AtW_update (Φo c T X) σ.os b .done)
    isplitl [HO]; · simp only [Φo]; iexact HO
    iexact Hos
  isplitl [Ht]; · iexact Ht
  isplitl [Hw]; · iexists _; iexact Hw
  iexact HR

end Ops

end Cert.Proof.Roll
-- ==== Proof.Channel.lean ====
module

public import proofs.«01_k».proof.Proof.Steps
public import Idealize.ShloMosaic.Lib.Pipeline.Value
public import Idealize.ShloMosaic.Lib.KernelVsHost

@[expose] public section

set_option maxRecDepth 16384

/-!
# One channel

A channel's label and plane are read; the plane goes back rolled. After it one more channel of the slot is done.
-/

noncomputable section

namespace Cert.Proof.Roll

open Cert.KernelIdeal Cert.KernelIdeal.Gen
open Idealize.ShloMosaic
open Idealize.ShloMosaic.ValueIdx (ix1 ix2 ix3 ix4)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (T : S768.Idx → Elt F .i32) (X : S4x768x224x224.Idx → Elt F .f32)

/-- The channel's number in its image. -/
def chNo (b : Fin 384) (i : Fin 8) : Fin 768 := ⟨b.val % 96 * 8 + i.val, by have := i.isLt; omega⟩
/-- The label of channel `i` of block `b`. -/
def label (b : Fin 384) (i : Fin 8) : BitVec 32 := T (ix1 (chNo b i))
/-- Channel `i` of block `b` of the operand. -/
def plane (b : Fin 384) (i : Fin 8) : FVec F S224x224 .f32 := fun p =>
  X (ix4 (⟨b.val / 96, by have := b.isLt; omega⟩ : Fin 4) (chNo b i) (⟨(p 0).val, (p 0).isLt⟩ : Fin 224) (⟨(p 1).val, (p 1).isLt⟩ : Fin 224))

/-- The part of the buffer that holds one channel. -/
abbrev chRect (off : Fin 4 → ℕ) (h : ∀ a, off a + S1x1x224x224.size a ≤ S16x8x224x224.size a) : Rect S16x8x224x224 :=
  Rect.unit (s := S16x8x224x224) off S1x1x224x224.size h

/-- The place of element `j` of channel `i` of slot `s`, in the ring. -/
theorem chRect_emb (s : Fin 16) (i : Fin 8) (h) (j : S1x1x224x224.Idx) :
    (bufM.access (chRect (chOff s i) h)).emb j
      = ix4 s i (⟨(j 2).val, (j 2).isLt⟩ : Fin 224) (⟨(j 3).val, (j 3).isLt⟩ : Fin 224) := by
  refine Eq.trans (b := (chRect (chOff s i) h).emb j) rfl ?_
  refine funext fun a => Fin.ext ?_
  refine (Rect.emb_apply _ _ _).trans ?_
  have h0 : (j 0).val < 1 := (j 0).isLt
  have h1 : (j 1).val < 1 := (j 1).isLt
  match a with
  | ⟨0, _⟩ => show s.val + 1 * (j 0).val = s.val; omega
  | ⟨1, _⟩ => show i.val + 1 * (j 1).val = i.val; omega
  | ⟨2, _⟩ => show 0 + 1 * (j 2).val = (j 2).val; omega
  | ⟨3, _⟩ => show 0 + 1 * (j 3).val = (j 3).val; omega

/-- The elements of a channel lie in its slot. -/
theorem chRect_sub (s : Fin 16) (i : Fin 8) (h) : (bufM.access (chRect (chOff s i) h)).set ⊆ slotSet s := by
  intro y hy
  obtain ⟨j, -, rfl⟩ := Finset.mem_map.mp hy
  rw [chRect_emb, mem_slotSet]

/-- The place in a plane of a place in a block of one plane. -/
theorem plane_up (v : S1x1x224x224.Idx → Elt F .f32) (h) (p : S224x224.Idx) :
    shapeCast S224x224 v h p = v (ix4 (0 : Fin 1) (0 : Fin 1) (⟨(p 0).val, (p 0).isLt⟩ : Fin 224) (⟨(p 1).val, (p 1).isLt⟩ : Fin 224)) := by
  refine shapeCast_apply v h p _ ?_
  rw [Shape.rowMajor_val_two, Shape.rowMajor_val_four]
  show ((0 * 1 + 0) * 224 + (p 0).val) * 224 + (p 1).val = (p 0).val * 224 + (p 1).val
  omega

theorem plane_down (v : S224x224.Idx → Elt F .f32) (h) (j : S1x1x224x224.Idx) :
    shapeCast S1x1x224x224 v h j = v (ix2 (⟨(j 2).val, (j 2).isLt⟩ : Fin 224) (⟨(j 3).val, (j 3).isLt⟩ : Fin 224)) := by
  refine shapeCast_apply v h j _ ?_
  rw [Shape.rowMajor_val_two, Shape.rowMajor_val_four]
  have h0 : (j 0).val < 1 := (j 0).isLt
  have h1 : (j 1).val < 1 := (j 1).isLt
  show (j 2).val * 224 + (j 3).val = (((j 0).val * 1 + (j 1).val) * 224 + (j 2).val) * 224 + (j 3).val
  omega

/-- What a load of channel `i` reads while channels before it alone are rolled: the operand's plane. -/
theorem read_mixed (s : Fin 16) (b : Fin 384) (i : Fin 8) (h) (hc) :
    (shapeCast S224x224 ((bufM.access (chRect (chOff s i) h)).read (Elt F) (mixed T X b i.val)) hc : FVec F S224x224 .f32)
      = plane X b i := by
  refine funext fun p => ?_
  rw [plane_up]
  refine Eq.trans (b := mixed T X b i.val ((bufM.access (chRect (chOff s i) h)).emb _)) rfl ?_
  rw [chRect_emb]
  unfold mixed
  rw [if_neg (Nat.lt_irrefl _)]
  rfl

/-- What the slot holds once channel `i` is rolled. -/
theorem slotP_rolled (s : Fin 16) (b : Fin 384) (i : Fin 8) (h) (hc) :
    (slotP c s ((bufM.access (chRect (chOff s i) h)).write (Elt F) (mixed T X b i.val)
        (shapeCast S1x1x224x224 (rolled (label T b i) (plane X b i)) hc) Finset.univ) : sProp 𝕄)
      = slotP c s (mixed T X b (i.val + 1)) := by
  refine pointsTo_congr fun y hy => ?_
  have hy0 : (y 0).val = s.val := (mem_slotSet s y).mp (slot_set s ▸ hy)
  by_cases hi : (y 1).val = i.val
  · have e : y = (bufM.access (chRect (chOff s i) h)).emb
        (ix4 (0 : Fin 1) (0 : Fin 1) (⟨(y 2).val, (y 2).isLt⟩ : Fin 224) (⟨(y 3).val, (y 3).isLt⟩ : Fin 224)) := by
      rw [chRect_emb]
      refine funext fun a => Fin.ext ?_
      match a with
      | ⟨0, _⟩ => exact hy0
      | ⟨1, _⟩ => exact hi
      | ⟨2, _⟩ => rfl
      | ⟨3, _⟩ => rfl
    rw [e]
    refine (View.write_emb_of_mem (v := bufM.access (chRect (chOff s i) h)) _ _ (Finset.mem_univ _)).trans ?_
    refine Eq.trans (b := shapeCast S1x1x224x224 (rolled (label T b i) (plane X b i)) hc _) rfl ?_
    rw [plane_down, chRect_emb]
    unfold mixed
    rw [if_pos (Nat.lt_succ_self _)]
    rfl
  · refine (View.write_of_not_mem (v := bufM.access (chRect (chOff s i) h)) _ _ _ fun hm => ?_).trans ?_
    · obtain ⟨j, -, rfl⟩ := Finset.mem_map.mp hm
      rw [chRect_emb] at hi
      exact hi rfl
    · unfold mixed
      by_cases hlt : (y 1).val < i.val
      · rw [if_pos hlt, if_pos (by omega)]
      · rw [if_neg hlt, if_neg (by omega)]

section Ops
variable {σ : St} {α : Type}

/-- Reading a label. -/
theorem wp_label (b : Fin 384) (i : Fin 8) {o : Fin 1 → ℕ} {h hn hp} {k : Elt F .i32 → Prog (TpuEff nD τ sig (Elt F) Λ₀ .tc) α}
    {R : sProp 𝕄} {Q : α → sProp 𝕄} (e : o = labOff b i)
    (hk : Inv c T X R σ ⊢ wp frame (wpE (defs₀ (F := F)) 𝒱₀ (c : Thread nD τ) none) Set.univ (k (label T b i)) Q) :
    Inv c T X R σ ⊢ wp frame (wpE (defs₀ (F := F)) 𝒱₀ (c : Thread nD τ) none) Set.univ
      (smemLoad tabM (Rect.unit (s := S768) o S1.size h) hn hp >>= k) Q := by
  subst e
  have hv : ∀ x : S1.Idx, (tabM.access (Rect.unit (s := S768) (labOff b i) S1.size h)).read (Elt F) T x = label T b i := by
    intro x
    refine congrArg T (funext fun a => Fin.ext ?_)
    match a with
    | ⟨0, _⟩ =>
      refine (Rect.emb_apply _ _ _).trans ?_
      have h0 : (x 0).val < 1 := (x 0).isLt
      show b.val % 96 * 8 + i.val + 1 * (x 0).val = b.val % 96 * 8 + i.val
      omega
  change Inv c T X R σ ⊢ wp frame (wpE (defs₀ (F := F)) 𝒱₀ (c : Thread nD τ) none) Set.univ
    (smemLoadElt tabM (Rect.unit (s := S768) (labOff b i) S1.size h) (View.loads_smem_one hp hn) _ k) Q
  unfold Inv
  iintro ⟨Hring, Hxs, Hos, Ht, Hw, HR⟩
  iapply (wp_smemLoadElt 𝒱₀ (c : Thread nD τ) none Set.univ (m := tabM) (r := Rect.unit (s := S768) (labOff b i) S1.size h) (hw := View.loads_smem_one hp hn) (S := Finset.univ) (f := T) (q := fullShare.right) (Finset.subset_univ _)) $$ [Ht]
  · iexact Ht
  iintro Ht
  irw [hv]
  iapply hk
  unfold Inv
  isplitl [Hring]; · iexact Hring
  isplitl [Hxs]; · iexact Hxs
  isplitl [Hos]; · iexact Hos
  isplitl [Ht]; · iexact Ht
  isplitl [Hw]; · iexact Hw
  iexact HR

/-- Reading a channel that is to be rolled next. -/
theorem wp_fetch (s : Fin 16) (b : Fin 384) (i : Fin 8) {o : Fin 4 → ℕ} {h hl}
    {k : Vec F S1x1x224x224 .f32 → Prog (TpuEff nD τ sig (Elt F) Λ₀ .tc) α}
    {R : sProp 𝕄} {Q : α → sProp 𝕄} (e : o = chOff s i) (hs : σ.ring s = .mid b i.val)
    (hk : ∀ v : Vec F S1x1x224x224 .f32, (∀ hc, shapeCast S224x224 v hc = plane X b i) →
      (Inv c T X R σ ⊢ wp frame (wpE (defs₀ (F := F)) 𝒱₀ (c : Thread nD τ) none) Set.univ (k v) Q)) :
    Inv c T X R σ ⊢ wp frame (wpE (defs₀ (F := F)) 𝒱₀ (c : Thread nD τ) none) Set.univ
      (.op (.load bufM (chRect o h).toLoadRect hl) k) Q := by
  subst e
  unfold Inv
  rw [Ring.AtW_focus (Φring c T X) σ.ring s, hs]
  simp only [Φring]
  iintro ⟨⟨⟨Hs, Hi, Ho⟩, Hring⟩, Hxs, Hos, Ht, Hw, HR⟩
  iapply (wp_load_rect 𝒱₀ (c : Thread nD τ) none Set.univ (m := bufM) (r := chRect (chOff s i) h) (S := (slot s).view.set) (f := mixed T X b i.val) (q := fullShare)
    (slot_set s ▸ chRect_sub s i h)) $$ [Hs]
  · iexact Hs
  iintro Hs
  iapply (hk _ fun hc => read_mixed T X s b i h hc)
  unfold Inv
  isplitl [Hs Hi Ho Hring]
  · irw [Ring.AtW_focus (Φring c T X) σ.ring s, hs]
    isplitl [Hs Hi Ho]
    · simp only [Φring]
      isplitl [Hs]; · iexact Hs
      isplitl [Hi]; · iexact Hi
      iexact Ho
    iexact Hring
  isplitl [Hxs]; · iexact Hxs
  isplitl [Hos]; · iexact Hos
  isplitl [Ht]; · iexact Ht
  isplitl [Hw]; · iexact Hw
  iexact HR

/-- Writing the channel back rolled, after a read of the place that nothing uses. -/
theorem wp_put (s : Fin 16) (b : Fin 384) (i : Fin 8) {o : Fin 4 → ℕ} {h hl} {w : Vec F S1x1x224x224 .f32} {hx hm}
    {k : PUnit → Prog (TpuEff nD τ sig (Elt F) Λ₀ .tc) α}
    {R : sProp 𝕄} {Q : α → sProp 𝕄} (e : o = chOff s i) (hs : σ.ring s = .mid b i.val)
    (hw : w = shapeCast S1x1x224x224 (rolled (label T b i) (plane X b i)) shapeCasts_S224x224_S1x1x224x224)
    (hk : Inv c T X R (σ.setRing s (.mid b (i.val + 1))) ⊢ wp frame (wpE (defs₀ (F := F)) 𝒱₀ (c : Thread nD τ) none) Set.univ (k ⟨⟩) Q) :
    Inv c T X R σ ⊢ wp frame (wpE (defs₀ (F := F)) 𝒱₀ (c : Thread nD τ) none) Set.univ
      (.op (.load bufM (chRect o h).toLoadRect hl) fun _ => .op (.store bufM (chRect o h) w Finset.univ hx hm) k) Q := by
  refine wp_fetch c T X s b i e hs fun v _ => ?_
  subst e hw
  unfold Inv
  rw [Ring.AtW_focus (Φring c T X) σ.ring s, hs]
  simp only [Φring]
  iintro ⟨⟨⟨Hs, Hi, Ho⟩, Hring⟩, Hxs, Hos, Ht, Hw, HR⟩
  iapply (wp_store 𝒱₀ (c : Thread nD τ) none Set.univ (m := bufM) (r := chRect (chOff s i) h) (hx := hx) (S := (slot s).view.set) (f := mixed T X b i.val)
    (slot_set s ▸ chRect_sub s i h)) $$ [Hs]
  · iexact Hs
  iintro Hs
  iapply hk
  unfold Inv St.setRing
  isplitl [Hs Hi Ho Hring]
  · iapply (Ring.AtW_update (Φring c T X) σ.ring s (.mid b (i.val + 1)))
    isplitl [Hs Hi Ho]
    · simp only [Φring]
      isplitl [Hs]
      · irw [← slotP_rolled c T X s b i h shapeCasts_S224x224_S1x1x224x224]
        iexact Hs
      isplitl [Hi]; · iexact Hi
      iexact Ho
    iexact Hring
  isplitl [Hxs]; · iexact Hxs
  isplitl [Hos]; · iexact Hos
  isplitl [Ht]; · iexact Ht
  isplitl [Hw]; · iexact Hw
  iexact HR

/-- The choice among the four rolls: whichever branch runs, the channel goes back rolled. -/
theorem wp_switch (s : Fin 16) (b : Fin 384) (i : Fin 8) {l : BitVec 32} {p : FVec F S224x224 .f32} {o3 o2 o1 o0 : Fin 4 → ℕ}
    {h3 h2 h1 h0 hl3 hl2 hl1 hl0 hx3 hx2 hx1 hx0 hm3 hm2 hm1 hm0} {k : Prog (TpuEff nD τ sig (Elt F) Λ₀ .tc) α}
    {R : sProp 𝕄} {Q : α → sProp 𝕄}
    (e3 : o3 = chOff s i) (e2 : o2 = chOff s i) (e1 : o1 = chOff s i) (e0 : o0 = chOff s i)
    (hl : l = label T b i) (hp : p = plane X b i) (hs : σ.ring s = .mid b i.val)
    (hk : Inv c T X R (σ.setRing s (.mid b (i.val + 1))) ⊢ wp frame (wpE (defs₀ (F := F)) 𝒱₀ (c : Thread nD τ) none) Set.univ k Q) :
    Inv c T X R σ ⊢ wp frame (wpE (defs₀ (F := F)) 𝒱₀ (c : Thread nD τ) none) Set.univ
      (if Scalar.cmpi .ne (Scalar.minsi (Scalar.maxsi l 0#32) 3#32) 0#32 = 1#1 then
        if Scalar.cmpi .ne (Scalar.subi (Scalar.minsi (Scalar.maxsi l 0#32) 3#32) 1#32) 0#32 = 1#1 then
          if Scalar.cmpi .ne (Scalar.subi (Scalar.subi (Scalar.minsi (Scalar.maxsi l 0#32) 3#32) 1#32) 1#32) 0#32 = 1#1 then
            (Prog.lift (.load bufM (chRect o3 h3).toLoadRect hl3) >>= fun _ =>
              Prog.lift (.store bufM (chRect o3 h3) (shapeCast S1x1x224x224 (dynamicRotate 1 223#32 none p rotates_S224x224_d1) shapeCasts_S224x224_S1x1x224x224) Finset.univ hx3 hm3) >>= fun _ => k)
          else
            (Prog.lift (.load bufM (chRect o2 h2).toLoadRect hl2) >>= fun _ =>
              Prog.lift (.store bufM (chRect o2 h2) (shapeCast S1x1x224x224 (dynamicRotate 1 1#32 none p rotates_S224x224_d1) shapeCasts_S224x224_S1x1x224x224) Finset.univ hx2 hm2) >>= fun _ => k)
        else
          (Prog.lift (.load bufM (chRect o1 h1).toLoadRect hl1) >>= fun _ =>
            Prog.lift (.store bufM (chRect o1 h1) (shapeCast S1x1x224x224 (dynamicRotate 0 223#32 none p rotates_S224x224_d0) shapeCasts_S224x224_S1x1x224x224) Finset.univ hx1 hm1) >>= fun _ => k)
      else
        (Prog.lift (.load bufM (chRect o0 h0).toLoadRect hl0) >>= fun _ =>
          Prog.lift (.store bufM (chRect o0 h0) (shapeCast S1x1x224x224 (dynamicRotate 0 1#32 none p rotates_S224x224_d0) shapeCasts_S224x224_S1x1x224x224) Finset.univ hx0 hm0) >>= fun _ => k)) Q := by
  subst hl hp
  split_ifs with c1 c2 c3
  · exact wp_put c T X s b i e3 hs (by unfold rolled; rw [if_pos c1, if_pos c2, if_pos c3]) hk
  · exact wp_put c T X s b i e2 hs (by unfold rolled; rw [if_pos c1, if_pos c2, if_neg c3]) hk
  · exact wp_put c T X s b i e1 hs (by unfold rolled; rw [if_pos c1, if_neg c2]) hk
  · exact wp_put c T X s b i e0 hs (by unfold rolled; rw [if_neg c1]) hk

end Ops

end Cert.Proof.Roll
-- ==== Proof.Schedule.lean ====
module

public import proofs.«01_k».proof.Proof.Channel

@[expose] public section

set_option maxRecDepth 16384

/-!
# The schedule

The state at each moment, as a function of the grid point: at the start of a point, after the next block's copy in was
started, while the channels are rolled, and at the end.
-/

noncomputable section

namespace Cert.Proof.Roll

open Cert.KernelIdeal Cert.KernelIdeal.Gen
open Idealize.ShloMosaic

/-! ## The slots -/

/-- At point `t` (after the first eight copies in were started): the slots of points `t … t + 7` are being filled, the
    others are being copied out, or free where nothing has used them yet. -/
def ringAt (t : ℕ) (s : Fin 16) : SlotSt :=
  let k := (s.val + 384 - t) % 16
  if k < 8 then (if t + k < 384 then .inn (bk (t + k)) else .out (bk (t + k - 16)))
  else (if 16 ≤ t + k then .out (bk (t + k - 16)) else .free)

/-- After point `t` has started the copy in of block `t + 8`, where there is one. -/
def ringMid (t : ℕ) : Fin 16 → SlotSt :=
  if t + 8 < 384 then Function.update (ringAt t) (sl (t + 8)) (.inn (bk (t + 8))) else ringAt t

theorem ringAt_next_out : ∀ t : Fin 384, 8 ≤ t.val → t.val + 8 < 384 → ringAt t.val (sl (t.val + 8)) = .out (bk (t.val - 8)) := by decide +kernel
theorem ringAt_next_free : ∀ t : Fin 384, t.val < 8 → ringAt t.val (sl (t.val + 8)) = .free := by decide +kernel
theorem ringMid_own : ∀ t : Fin 384, ringMid t.val (sl t.val) = .inn (bk t.val) := by decide +kernel
theorem ringAt_succ' : ∀ t : Fin 384, ∀ s : Fin 16, Function.update (ringMid t.val) (sl t.val) (.out (bk t.val)) s = ringAt (t.val + 1) s := by
  decide +kernel
theorem ringAt_succ (t : Fin 384) : Function.update (ringMid t.val) (sl t.val) (.out (bk t.val)) = ringAt (t.val + 1) :=
  funext (ringAt_succ' t)
theorem ringAt_end : ∀ s : Fin 16, ringAt 384 s = .out (bk (368 + s.val)) := by decide +kernel

/-! ## The operand's and the result's blocks -/

/-- At point `t` the operand's blocks `t … t + 7` are lent to copies. -/
def xsAt (t : ℕ) (b : Fin 384) : Bool := !decide (t ≤ b.val ∧ b.val < t + 8)
/-- With block `t + 8` lent too. -/
def xsMid (t : ℕ) (b : Fin 384) : Bool := !decide (t ≤ b.val ∧ b.val < t + 9)

/-- At point `t` the copies out of the blocks before it were started, and those of the blocks before `t - 8` have ended
    (the last sixteen are waited for at the end). -/
def osAt (t : ℕ) (b : Fin 384) : OutSt := if b.val < t then (if b.val + 8 < t ∧ b.val < 368 then .done else .flying) else .raw
/-- After point `t` has waited for the copy out of block `t - 8`. -/
def osMid (t : ℕ) (b : Fin 384) : OutSt := if b.val < t then (if b.val + 8 ≤ t ∧ b.val < 368 then .done else .flying) else .raw

theorem bk_val {n : ℕ} (h : n < 384) : (bk n).val = n := Nat.mod_eq_of_lt h

theorem xsAt_next (t : ℕ) (h : t + 8 < 384) : xsAt t (bk (t + 8)) = true := by
  unfold xsAt; rw [bk_val h]; simp
theorem xsMid_own (t : ℕ) (h : t < 384) : xsMid t (bk t) = false := by
  unfold xsMid; rw [bk_val h]; simp
theorem xsMid_eq (t : ℕ) (h : t + 8 < 384) : Function.update (xsAt t) (bk (t + 8)) false = xsMid t := by
  funext b
  rw [Function.update_apply]
  have e := bk_val h
  unfold xsAt xsMid
  split_ifs with hb
  · subst hb; rw [e]; simp
  · have : b.val ≠ t + 8 := fun h' => hb (Fin.ext (h'.trans e.symm))
    congr 2
    exact propext ⟨fun H => by omega, fun H => by omega⟩
theorem xsMid_last (t : ℕ) (h : ¬ t + 8 < 384) : xsAt t = xsMid t := by
  funext b
  have hb := b.isLt
  unfold xsAt xsMid
  congr 2
  exact propext ⟨fun H => by omega, fun H => by omega⟩
theorem xsAt_succ (t : ℕ) (h : t < 384) : Function.update (xsMid t) (bk t) true = xsAt (t + 1) := by
  funext b
  rw [Function.update_apply]
  have e := bk_val h
  unfold xsAt xsMid
  split_ifs with hb
  · subst hb; rw [e]; simp
  · have : b.val ≠ t := fun h' => hb (Fin.ext (h'.trans e.symm))
    congr 2
    exact propext ⟨fun H => by omega, fun H => by omega⟩
theorem xsAt_end : xsAt 384 = fun _ => true := by
  funext b
  have hb := b.isLt
  unfold xsAt
  simp only [Bool.not_eq_true', decide_eq_false_iff_not]
  omega

theorem osAt_prev (t : ℕ) (h8 : 8 ≤ t) (h : t + 8 < 384) : osAt t (bk (t - 8)) = .flying := by
  unfold osAt; rw [bk_val (by omega), if_pos (by omega), if_neg (by omega)]
theorem osMid_own (t : ℕ) (h : t < 384) : osMid t (bk t) = .raw := by
  unfold osMid; rw [bk_val h, if_neg (by omega)]
theorem osMid_eq (t : ℕ) (h8 : 8 ≤ t) (h : t + 8 < 384) : Function.update (osAt t) (bk (t - 8)) .done = osMid t := by
  funext b
  rw [Function.update_apply]
  have e := bk_val (n := t - 8) (by omega)
  unfold osAt osMid
  by_cases hb : b = bk (t - 8)
  · subst hb; rw [if_pos rfl, e, if_pos (by omega), if_pos (by omega)]
  · have : b.val ≠ t - 8 := fun h' => hb (Fin.ext (h'.trans e.symm))
    rw [if_neg hb]
    by_cases h1 : b.val < t
    · rw [if_pos h1, if_pos h1]
      by_cases h2 : b.val + 8 < t ∧ b.val < 368
      · rw [if_pos h2, if_pos (by omega)]
      · rw [if_neg h2, if_neg (by omega)]
    · rw [if_neg h1, if_neg h1]
theorem osMid_same (t : ℕ) (h : t < 8 ∨ ¬ t + 8 < 384) : osAt t = osMid t := by
  funext b
  unfold osAt osMid
  by_cases h1 : b.val < t
  · rw [if_pos h1, if_pos h1]
    by_cases h2 : b.val + 8 < t ∧ b.val < 368
    · rw [if_pos h2, if_pos (by omega)]
    · rw [if_neg h2, if_neg (by omega)]
  · rw [if_neg h1, if_neg h1]
theorem osAt_succ (t : ℕ) (h : t < 384) : Function.update (osMid t) (bk t) .flying = osAt (t + 1) := by
  funext b
  rw [Function.update_apply]
  have e := bk_val h
  unfold osAt osMid
  by_cases hb : b = bk t
  · subst hb; rw [if_pos rfl, e, if_pos (by omega), if_neg (by omega)]
  · have : b.val ≠ t := fun h' => hb (Fin.ext (h'.trans e.symm))
    rw [if_neg hb]
    by_cases h1 : b.val < t
    · rw [if_pos h1, if_pos (show b.val < t + 1 by omega)]
      by_cases h2 : b.val + 8 ≤ t ∧ b.val < 368
      · rw [if_pos h2, if_pos (by omega)]
      · rw [if_neg h2, if_neg (by omega)]
    · rw [if_neg h1, if_neg (by omega)]

/-! ## The states -/

/-- Everything at point `t`, once the first eight copies were started. -/
def atSt (t : ℕ) : St := ⟨ringAt t, xsAt t, osAt t⟩
/-- Before the first point. -/
def firstSt : St := ⟨fun _ => .free, fun _ => true, fun _ => .raw⟩
/-- After the last one. -/
def lastSt : St := ⟨fun _ => .free, fun _ => true, fun _ => .done⟩
/-- Before point `t`; at 384, after all of them. -/
def startSt (t : ℕ) : St := if t = 0 then firstSt else if t = 384 then lastSt else atSt t
/-- Once point `t` has started the copy in of block `t + 8`. -/
def midSt (t : ℕ) : St := ⟨ringMid t, xsMid t, osMid t⟩
/-- While point `t` holds its block with `i` channels rolled. -/
def chSt (t i : ℕ) : St := ⟨Function.update (ringMid t) (sl t) (.mid (bk t) i), xsAt (t + 1), osMid t⟩

theorem chSt_own (t i : ℕ) : (chSt t i).ring (sl t) = .mid (bk t) i := Function.update_self ..
theorem chSt_next (t i : ℕ) : (chSt t i).setRing (sl t) (.mid (bk t) (i + 1)) = chSt t (i + 1) := by
  unfold chSt St.setRing
  rw [Function.update_idem]
theorem midSt_next (t : ℕ) (h : t < 384) : ((midSt t).setRing (sl t) (.mid (bk t) 0)).setX (bk t) true = chSt t 0 := by
  unfold chSt midSt St.setRing St.setX
  rw [xsAt_succ t h]
theorem chSt_end (t : Fin 384) : ((chSt t.val 8).setRing (sl t.val) (.out (bk t.val))).setO (bk t.val) .flying = atSt (t.val + 1) := by
  unfold chSt atSt St.setRing St.setO
  rw [osAt_succ t.val t.isLt]
  dsimp only
  rw [Function.update_idem, ringAt_succ]

/-- Where block `t + 8` exists and its slot was used before. -/
theorem atSt_refill (t : ℕ) (h8 : 8 ≤ t) (h : t + 8 < 384) :
    ((((atSt t).setRing (sl (t + 8)) .free).setO (bk (t - 8)) .done).setRing (sl (t + 8)) (.inn (bk (t + 8)))).setX (bk (t + 8)) false = midSt t := by
  unfold atSt midSt St.setRing St.setO St.setX ringMid
  dsimp only
  rw [Function.update_idem, xsMid_eq t h, osMid_eq t h8 h, if_pos h]
/-- Where it exists and its slot is new. -/
theorem atSt_fill (t : ℕ) (h8 : t < 8) (h : t + 8 < 384) :
    ((atSt t).setRing (sl (t + 8)) (.inn (bk (t + 8)))).setX (bk (t + 8)) false = midSt t := by
  unfold atSt midSt St.setRing St.setX ringMid
  dsimp only
  rw [xsMid_eq t h, osMid_same t (.inl h8), if_pos h]
/-- Where it does not exist. -/
theorem atSt_same (t : ℕ) (h : ¬ t + 8 < 384) : atSt t = midSt t := by
  unfold atSt midSt ringMid
  rw [xsMid_last t h, osMid_same t (.inr h), if_neg h]

/-! ## The copies in before the first point, and the waits after the last -/

/-- With the copies in of the first `n` blocks started. -/
def primed (n : ℕ) : St := ⟨fun s => if s.val < n then .inn (bk s.val) else .free, fun b => !decide (b.val < n), fun _ => .raw⟩
/-- With the copies out of the last blocks waited for, in the first `n` slots. -/
def drained (n : ℕ) : St := ⟨fun s => if s.val < n then .free else .out (bk (368 + s.val)), fun _ => true,
  fun b => if b.val < 368 + n then .done else .flying⟩

theorem st_eq {σ σ' : St} (h1 : σ.ring = σ'.ring) (h2 : σ.xs = σ'.xs) (h3 : σ.os = σ'.os) : σ = σ' := by
  cases σ; cases σ'; cases h1; cases h2; cases h3; rfl

theorem primed_zero : firstSt = primed 0 := by
  unfold firstSt primed; simp
theorem primed_ring (n : ℕ) (h : n < 8) : (primed n).ring (sl n) = .free := by
  show (if n % 16 < n then _ else SlotSt.free) = _
  rw [if_neg (by omega)]
theorem primed_xs (n : ℕ) (h : n < 8) : (primed n).xs (bk n) = true := by
  show (!decide (n % 384 < n)) = _
  simp; omega
theorem primed_succ (n : ℕ) (h : n < 8) : ((primed n).setRing (sl n) (.inn (bk n))).setX (bk n) false = primed (n + 1) := by
  have h16 : n % 16 = n := Nat.mod_eq_of_lt (by omega)
  have h384 : n % 384 = n := Nat.mod_eq_of_lt (by omega)
  unfold primed St.setRing St.setX
  refine st_eq (funext fun s => ?_) (funext fun b => ?_) rfl
  · dsimp only
    rw [Function.update_apply]
    by_cases hs : s = sl n
    · subst hs
      rw [if_pos rfl]
      show _ = if n % 16 < n + 1 then SlotSt.inn (bk (n % 16)) else SlotSt.free
      rw [if_pos (by omega), h16]
    · have : s.val ≠ n := fun h' => hs (Fin.ext (h'.trans h16.symm))
      rw [if_neg hs]
      by_cases h1 : s.val < n
      · rw [if_pos h1, if_pos (by omega)]
      · rw [if_neg h1, if_neg (by omega)]
  · dsimp only
    rw [Function.update_apply]
    by_cases hb : b = bk n
    · subst hb
      rw [if_pos rfl]
      simp; omega
    · have : b.val ≠ n := fun h' => hb (Fin.ext (h'.trans h384.symm))
      rw [if_neg hb]
      congr 2
      exact propext ⟨fun H => by omega, fun H => by omega⟩
theorem primed_ring_eight : ∀ s : Fin 16, (primed 8).ring s = ringAt 0 s := by decide +kernel
theorem primed_eight : primed 8 = atSt 0 := by
  unfold atSt
  rw [← funext primed_ring_eight]
  unfold primed xsAt osAt
  refine st_eq rfl (funext fun b => ?_) (funext fun b => ?_)
  · simp
  · dsimp only
    rw [if_neg (Nat.not_lt_zero _)]

theorem drained_zero : atSt 384 = drained 0 := by
  unfold atSt drained
  rw [xsAt_end]
  refine st_eq (funext fun s => ?_) rfl (funext fun b => ?_)
  · dsimp only
    rw [ringAt_end, if_neg (Nat.not_lt_zero _)]
  · have hb := b.isLt
    unfold osAt
    dsimp only
    rw [if_pos hb]
    by_cases h : b.val < 368
    · rw [if_pos (by omega), if_pos (by omega)]
    · rw [if_neg (by omega), if_neg (by omega)]
theorem drained_ring (n : ℕ) (h : n < 16) : (drained n).ring (sl n) = .out (bk (368 + n)) := by
  show (if n % 16 < n then SlotSt.free else SlotSt.out (bk (368 + n % 16))) = _
  rw [if_neg (by omega), Nat.mod_eq_of_lt h]
theorem drained_os (n : ℕ) (h : n < 16) : (drained n).os (bk (368 + n)) = .flying := by
  show (if (368 + n) % 384 < 368 + n then OutSt.done else OutSt.flying) = _
  rw [if_neg (by omega)]
theorem drained_succ (n : ℕ) (h : n < 16) : ((drained n).setRing (sl n) .free).setO (bk (368 + n)) .done = drained (n + 1) := by
  have h16 : n % 16 = n := Nat.mod_eq_of_lt (by omega)
  have h384 : (368 + n) % 384 = 368 + n := Nat.mod_eq_of_lt (by omega)
  unfold drained St.setRing St.setO
  refine st_eq (funext fun s => ?_) rfl (funext fun b => ?_)
  · dsimp only
    rw [Function.update_apply]
    by_cases hs : s = sl n
    · subst hs
      rw [if_pos rfl]
      show _ = if n % 16 < n + 1 then SlotSt.free else _
      rw [if_pos (by omega)]
    · have : s.val ≠ n := fun h' => hs (Fin.ext (h'.trans h16.symm))
      rw [if_neg hs]
      by_cases h1 : s.val < n
      · rw [if_pos h1, if_pos (by omega)]
      · rw [if_neg h1, if_neg (by omega)]
  · dsimp only
    rw [Function.update_apply]
    by_cases hb : b = bk (368 + n)
    · subst hb
      rw [if_pos rfl]
      show _ = if (368 + n) % 384 < 368 + (n + 1) then _ else _
      rw [if_pos (by omega)]
    · have : b.val ≠ 368 + n := fun h' => hb (Fin.ext (h'.trans h384.symm))
      rw [if_neg hb]
      by_cases h1 : b.val < 368 + n
      · rw [if_pos h1, if_pos (by omega)]
      · rw [if_neg h1, if_neg (by omega)]
theorem drained_sixteen : drained 16 = lastSt := by
  unfold drained lastSt
  refine st_eq (funext fun s => ?_) rfl (funext fun b => ?_)
  · dsimp only
    rw [if_pos s.isLt]
  · dsimp only
    rw [if_pos (by have := b.isLt; omega)]

end Cert.Proof.Roll
-- ==== Proof.Offsets.lean ====
module

public import proofs.«01_k».proof.Proof.Names

@[expose] public section

set_option maxRecDepth 16384

/-!
# The offsets at a grid point

Point `t` waits for block `t` in slot `t % 16`, works through its eight channels, starts block `t`'s copy out, and starts
block `t + 8`'s copy in after the copy out of block `t - 8` has left that slot.
-/

noncomputable section

namespace Cert.Proof.Roll

open Cert.KernelIdeal Cert.KernelIdeal.Gen
open Idealize.ShloMosaic

theorem cond2_iff : ∀ t : Fin grid0.N, k0_cond2 (grid0.coords t) = 1#1 ↔ t.val + 8 < 384 := by decide +kernel
theorem cond3_iff : ∀ t : Fin grid0.N, k0_cond2 (grid0.coords t) = 1#1 → (k0_cond3 (grid0.coords t) = 1#1 ↔ 8 ≤ t.val) := by decide +kernel

/-! ## The wait before a slot is filled again, and the copy in -/

theorem off1_eq : ∀ t : Fin grid0.N, 8 ≤ t.val → t.val + 8 < 384 → k0_off1 (grid0.coords t) = semOff (sl (t.val + 8)) := by decide +kernel
theorem off2_eq : ∀ t : Fin grid0.N, 8 ≤ t.val → t.val + 8 < 384 → k0_off2 (grid0.coords t) = blkOff (bk (t.val - 8)) := by decide +kernel
theorem off3_eq : ∀ t : Fin grid0.N, 8 ≤ t.val → t.val + 8 < 384 → k0_off3 (grid0.coords t) = slotOff (sl (t.val + 8)) := by decide +kernel
theorem off4_eq : ∀ t : Fin grid0.N, t.val + 8 < 384 → k0_off4 (grid0.coords t) = semOff (sl (t.val + 8)) := by decide +kernel
theorem off5_eq : ∀ t : Fin grid0.N, t.val + 8 < 384 → k0_off5 (grid0.coords t) = slotOff (sl (t.val + 8)) := by decide +kernel
theorem off6_eq : ∀ t : Fin grid0.N, t.val + 8 < 384 → k0_off6 (grid0.coords t) = blkOff (bk (t.val + 8)) := by decide +kernel

/-! ## The wait for the point's own block -/

theorem off7_eq : ∀ t : Fin grid0.N, k0_off7 (grid0.coords t) = semOff (sl t.val) := by decide +kernel
theorem off8_eq : ∀ t : Fin grid0.N, k0_off8 (grid0.coords t) = slotOff (sl t.val) := by decide +kernel
theorem off9_eq : ∀ t : Fin grid0.N, k0_off9 (grid0.coords t) = blkOff (bk t.val) := by decide +kernel

/-! ## The eight channels: the label's place, the load's, and the four stores' -/

theorem off10_eq : ∀ t : Fin grid0.N, k0_off10 (grid0.coords t) = labOff (bk t.val) 0 := by decide +kernel
theorem off11_eq : ∀ t : Fin grid0.N, k0_off11 (grid0.coords t) = chOff (sl t.val) 0 := by decide +kernel
theorem off12_eq : ∀ t : Fin grid0.N, k0_off12 (grid0.coords t) = chOff (sl t.val) 0 := by decide +kernel
theorem off13_eq : ∀ t : Fin grid0.N, k0_off13 (grid0.coords t) = chOff (sl t.val) 0 := by decide +kernel
theorem off14_eq : ∀ t : Fin grid0.N, k0_off14 (grid0.coords t) = chOff (sl t.val) 0 := by decide +kernel
theorem off15_eq : ∀ t : Fin grid0.N, k0_off15 (grid0.coords t) = chOff (sl t.val) 0 := by decide +kernel
theorem off16_eq : ∀ t : Fin grid0.N, k0_off16 (grid0.coords t) = labOff (bk t.val) 1 := by decide +kernel
theorem off17_eq : ∀ t : Fin grid0.N, k0_off17 (grid0.coords t) = chOff (sl t.val) 1 := by decide +kernel
theorem off18_eq : ∀ t : Fin grid0.N, k0_off18 (grid0.coords t) = chOff (sl t.val) 1 := by decide +kernel
theorem off19_eq : ∀ t : Fin grid0.N, k0_off19 (grid0.coords t) = chOff (sl t.val) 1 := by decide +kernel
theorem off20_eq : ∀ t : Fin grid0.N, k0_off20 (grid0.coords t) = chOff (sl t.val) 1 := by decide +kernel
theorem off21_eq : ∀ t : Fin grid0.N, k0_off21 (grid0.coords t) = chOff (sl t.val) 1 := by decide +kernel
theorem off22_eq : ∀ t : Fin grid0.N, k0_off22 (grid0.coords t) = labOff (bk t.val) 2 := by decide +kernel
theorem off23_eq : ∀ t : Fin grid0.N, k0_off23 (grid0.coords t) = chOff (sl t.val) 2 := by decide +kernel
theorem off24_eq : ∀ t : Fin grid0.N, k0_off24 (grid0.coords t) = chOff (sl t.val) 2 := by decide +kernel
theorem off25_eq : ∀ t : Fin grid0.N, k0_off25 (grid0.coords t) = chOff (sl t.val) 2 := by decide +kernel
theorem off26_eq : ∀ t : Fin grid0.N, k0_off26 (grid0.coords t) = chOff (sl t.val) 2 := by decide +kernel
theorem off27_eq : ∀ t : Fin grid0.N, k0_off27 (grid0.coords t) = chOff (sl t.val) 2 := by decide +kernel
theorem off28_eq : ∀ t : Fin grid0.N, k0_off28 (grid0.coords t) = labOff (bk t.val) 3 := by decide +kernel
theorem off29_eq : ∀ t : Fin grid0.N, k0_off29 (grid0.coords t) = chOff (sl t.val) 3 := by decide +kernel
theorem off30_eq : ∀ t : Fin grid0.N, k0_off30 (grid0.coords t) = chOff (sl t.val) 3 := by decide +kernel
theorem off31_eq : ∀ t : Fin grid0.N, k0_off31 (grid0.coords t) = chOff (sl t.val) 3 := by decide +kernel
theorem off32_eq : ∀ t : Fin grid0.N, k0_off32 (grid0.coords t) = chOff (sl t.val) 3 := by decide +kernel
theorem off33_eq : ∀ t : Fin grid0.N, k0_off33 (grid0.coords t) = chOff (sl t.val) 3 := by decide +kernel
theorem off34_eq : ∀ t : Fin grid0.N, k0_off34 (grid0.coords t) = labOff (bk t.val) 4 := by decide +kernel
theorem off35_eq : ∀ t : Fin grid0.N, k0_off35 (grid0.coords t) = chOff (sl t.val) 4 := by decide +kernel
theorem off36_eq : ∀ t : Fin grid0.N, k0_off36 (grid0.coords t) = chOff (sl t.val) 4 := by decide +kernel
theorem off37_eq : ∀ t : Fin grid0.N, k0_off37 (grid0.coords t) = chOff (sl t.val) 4 := by decide +kernel
theorem off38_eq : ∀ t : Fin grid0.N, k0_off38 (grid0.coords t) = chOff (sl t.val) 4 := by decide +kernel
theorem off39_eq : ∀ t : Fin grid0.N, k0_off39 (grid0.coords t) = chOff (sl t.val) 4 := by decide +kernel
theorem off40_eq : ∀ t : Fin grid0.N, k0_off40 (grid0.coords t) = labOff (bk t.val) 5 := by decide +kernel
theorem off41_eq : ∀ t : Fin grid0.N, k0_off41 (grid0.coords t) = chOff (sl t.val) 5 := by decide +kernel
theorem off42_eq : ∀ t : Fin grid0.N, k0_off42 (grid0.coords t) = chOff (sl t.val) 5 := by decide +kernel
theorem off43_eq : ∀ t : Fin grid0.N, k0_off43 (grid0.coords t) = chOff (sl t.val) 5 := by decide +kernel
theorem off44_eq : ∀ t : Fin grid0.N, k0_off44 (grid0.coords t) = chOff (sl t.val) 5 := by decide +kernel
theorem off45_eq : ∀ t : Fin grid0.N, k0_off45 (grid0.coords t) = chOff (sl t.val) 5 := by decide +kernel
theorem off46_eq : ∀ t : Fin grid0.N, k0_off46 (grid0.coords t) = labOff (bk t.val) 6 := by decide +kernel
theorem off47_eq : ∀ t : Fin grid0.N, k0_off47 (grid0.coords t) = chOff (sl t.val) 6 := by decide +kernel
theorem off48_eq : ∀ t : Fin grid0.N, k0_off48 (grid0.coords t) = chOff (sl t.val) 6 := by decide +kernel
theorem off49_eq : ∀ t : Fin grid0.N, k0_off49 (grid0.coords t) = chOff (sl t.val) 6 := by decide +kernel
theorem off50_eq : ∀ t : Fin grid0.N, k0_off50 (grid0.coords t) = chOff (sl t.val) 6 := by decide +kernel
theorem off51_eq : ∀ t : Fin grid0.N, k0_off51 (grid0.coords t) = chOff (sl t.val) 6 := by decide +kernel
theorem off52_eq : ∀ t : Fin grid0.N, k0_off52 (grid0.coords t) = labOff (bk t.val) 7 := by decide +kernel
theorem off53_eq : ∀ t : Fin grid0.N, k0_off53 (grid0.coords t) = chOff (sl t.val) 7 := by decide +kernel
theorem off54_eq : ∀ t : Fin grid0.N, k0_off54 (grid0.coords t) = chOff (sl t.val) 7 := by decide +kernel
theorem off55_eq : ∀ t : Fin grid0.N, k0_off55 (grid0.coords t) = chOff (sl t.val) 7 := by decide +kernel
theorem off56_eq : ∀ t : Fin grid0.N, k0_off56 (grid0.coords t) = chOff (sl t.val) 7 := by decide +kernel
theorem off57_eq : ∀ t : Fin grid0.N, k0_off57 (grid0.coords t) = chOff (sl t.val) 7 := by decide +kernel

/-! ## The copy out -/

theorem off58_eq : ∀ t : Fin grid0.N, k0_off58 (grid0.coords t) = semOff (sl t.val) := by decide +kernel
theorem off59_eq : ∀ t : Fin grid0.N, k0_off59 (grid0.coords t) = blkOff (bk t.val) := by decide +kernel
theorem off60_eq : ∀ t : Fin grid0.N, k0_off60 (grid0.coords t) = slotOff (sl t.val) := by decide +kernel

end Cert.Proof.Roll
-- ==== Proof.Point.lean ====
module

public import proofs.«01_k».proof.Proof.Schedule
public import proofs.«01_k».proof.Proof.Offsets

@[expose] public section

set_option maxRecDepth 16384

/-!
# One grid point, step by step

The operations' lemmas along the schedule, and what each printed piece of the kernel's body does to the state.
-/

noncomputable section

namespace Cert.Proof.Roll

open Cert.KernelIdeal Cert.KernelIdeal.Gen
open Idealize.ShloMosaic
open Idealize.ShloMosaic.ValueIdx (ix1 ix2 ix3 ix4)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The program `p`, from the state `σ`, ends with `Q`. -/
abbrev Runs (c : Dev nD) (T : S768.Idx → Elt F .i32) (X : S4x768x224x224.Idx → Elt F .f32) (R : sProp 𝕄) (σ : St) {α : Type}
    (p : Prog (TpuEff nD τ sig (Elt F) Λ₀ .tc) α) (Q : α → sProp 𝕄) : Prop :=
  Inv c T X R σ ⊢ wp frame (wpE (defs₀ (F := F)) 𝒱₀ (c : Thread nD τ) none) Set.univ p Q

variable (c : Dev nD) (T : S768.Idx → Elt F .i32) (X : S4x768x224x224.Idx → Elt F .f32)

/-- One program after another. -/
theorem runs_seq {R : sProp 𝕄} {σ σ' : St} {α β : Type} {p : Prog (TpuEff nD τ sig (Elt F) Λ₀ .tc) α} {k : α → Prog (TpuEff nD τ sig (Elt F) Λ₀ .tc) β}
    {φ : α → Prop} {Q : β → sProp 𝕄} (hp : Runs c T X R σ p (fun r => iprop(⌜φ r⌝ ∗ Inv c T X R σ')))
    (hk : ∀ r, φ r → Runs c T X R σ' (k r) Q) : Runs c T X R σ (p >>= k) Q := by
  refine hp.trans ((wp_mono _ _ _ fun r => ?_).trans (Entails.of_eq (wp_bind _ _ _ _ _ _).symm))
  iintro ⟨%h, H⟩
  iapply (hk r h)
  iexact H

/-- A program that returns at once. -/
theorem runs_ret {R : sProp 𝕄} {σ : St} {α : Type} {r : α} {φ : α → Prop} (h : φ r) :
    Runs c T X R σ (.ret r) (fun r => iprop(⌜φ r⌝ ∗ Inv c T X R σ)) := by
  have h2 : Inv c T X R σ ⊢ iprop(⌜φ r⌝ ∗ Inv c T X R σ) := by
    iintro H
    isplitr
    · ipureintro; exact h
    iexact H
  exact h2.trans (le_wp_ret _ _ _ r (fun r => iprop(⌜φ r⌝ ∗ Inv c T X R σ)))

/-- A change of state's name. -/
theorem runs_state {R : sProp 𝕄} {σ σ' : St} (h : σ = σ') {α : Type} {p : Prog (TpuEff nD τ sig (Elt F) Λ₀ .tc) α} {Q : α → sProp 𝕄}
    (hp : Runs c T X R σ' p Q) : Runs c T X R σ p Q := h ▸ hp

/-- Starting the copy in of the `n`-th of the first eight blocks. -/
theorem runs_prime {R : sProp 𝕄} (n : ℕ) (hn : n < 8) {α : Type} {o1 : Fin 1 → ℕ} {o2 o3 : Fin 4 → ℕ} {h1 h2 h3 w1 w2 w3}
    {k : PUnit → Prog (TpuEff nD τ sig (Elt F) Λ₀ .tc) α} {Q : α → sProp 𝕄}
    (e1 : o1 = semOff (sl n)) (e2 : o2 = slotOff (sl n)) (e3 : o3 = blkOff (bk n))
    (hk : Runs c T X R (primed (n + 1)) (k ⟨⟩) Q) :
    Runs c T X R (primed n) (.op (.enqueueDma (xAt o3 h3) (.here (slotAt o2 h2)) (.dma (isemAt o1 h1).sem) w1 w2 w3) k) Q :=
  wp_inStart c T X (sl n) (bk n) e1 e2 e3 (primed_ring n hn) (primed_xs n hn) (runs_state c T X (primed_succ n hn) hk)

/-- Waiting for the copy out of the `n`-th of the last sixteen blocks. -/
theorem runs_drain {R : sProp 𝕄} (n : ℕ) (hn : n < 16) {α : Type} {o1 : Fin 1 → ℕ} {o2 o3 : Fin 4 → ℕ} {h1 h2 h3 w1 w2}
    {k : PUnit → Prog (TpuEff nD τ sig (Elt F) Λ₀ .tc) α} {Q : α → sProp 𝕄}
    (e1 : o1 = semOff (sl n)) (e2 : o2 = slotOff (sl n)) (e3 : o3 = blkOff (bk (368 + n)))
    (hk : Runs c T X R (drained (n + 1)) (k ⟨⟩) Q) :
    Runs c T X R (drained n) (.op (.waitDma2 (osemAt o1 h1).sem (slotAt o2 h2) (oAt o3 h3) w1 w2) k) Q :=
  wp_outWait c T X (sl n) (bk (368 + n)) e1 e2 e3 (drained_ring n hn) (drained_os n hn) (runs_state c T X (drained_succ n hn) hk)

/-- Rolling channel `i` of point `t`'s block. -/
theorem runs_roll {R : sProp 𝕄} (t : ℕ) (i : Fin 8) {l : BitVec 32} {p : FVec F S224x224 .f32} {o3 o2 o1 o0 : Fin 4 → ℕ}
    {h3 h2 h1 h0 hl3 hl2 hl1 hl0 hx3 hx2 hx1 hx0 hm3 hm2 hm1 hm0} {α : Type} {w3 w2 w1 w0 : Vec F S1x1x224x224 .f32}
    {k : Prog (TpuEff nD τ sig (Elt F) Λ₀ .tc) α} {Q : α → sProp 𝕄}
    (e3 : o3 = chOff (sl t) i) (e2 : o2 = chOff (sl t) i) (e1 : o1 = chOff (sl t) i) (e0 : o0 = chOff (sl t) i)
    (hl : l = label T (bk t) i) (hp : p = plane X (bk t) i)
    (f3 : w3 = shapeCast S1x1x224x224 (dynamicRotate 1 223#32 none p rotates_S224x224_d1) shapeCasts_S224x224_S1x1x224x224)
    (f2 : w2 = shapeCast S1x1x224x224 (dynamicRotate 1 1#32 none p rotates_S224x224_d1) shapeCasts_S224x224_S1x1x224x224)
    (f1 : w1 = shapeCast S1x1x224x224 (dynamicRotate 0 223#32 none p rotates_S224x224_d0) shapeCasts_S224x224_S1x1x224x224)
    (f0 : w0 = shapeCast S1x1x224x224 (dynamicRotate 0 1#32 none p rotates_S224x224_d0) shapeCasts_S224x224_S1x1x224x224)
    (hk : Runs c T X R (chSt t (i.val + 1)) k Q) :
    Runs c T X R (chSt t i.val)
      (if Scalar.cmpi .ne (Scalar.minsi (Scalar.maxsi l 0#32) 3#32) 0#32 = 1#1 then
        if Scalar.cmpi .ne (Scalar.subi (Scalar.minsi (Scalar.maxsi l 0#32) 3#32) 1#32) 0#32 = 1#1 then
          if Scalar.cmpi .ne (Scalar.subi (Scalar.subi (Scalar.minsi (Scalar.maxsi l 0#32) 3#32) 1#32) 1#32) 0#32 = 1#1 then
            (Prog.lift (.load bufM (chRect o3 h3).toLoadRect hl3) >>= fun _ => Prog.lift (.store bufM (chRect o3 h3) w3 Finset.univ hx3 hm3) >>= fun _ => k)
          else
            (Prog.lift (.load bufM (chRect o2 h2).toLoadRect hl2) >>= fun _ => Prog.lift (.store bufM (chRect o2 h2) w2 Finset.univ hx2 hm2) >>= fun _ => k)
        else
          (Prog.lift (.load bufM (chRect o1 h1).toLoadRect hl1) >>= fun _ => Prog.lift (.store bufM (chRect o1 h1) w1 Finset.univ hx1 hm1) >>= fun _ => k)
      else
        (Prog.lift (.load bufM (chRect o0 h0).toLoadRect hl0) >>= fun _ => Prog.lift (.store bufM (chRect o0 h0) w0 Finset.univ hx0 hm0) >>= fun _ => k)) Q := by
  subst f3 f2 f1 f0
  exact wp_switch c T X (sl t) (bk t) i e3 e2 e1 e0 hl hp (chSt_own t i.val) (runs_state c T X (chSt_next t i.val) hk)

/-- Reading channel `i`'s label and plane, and rolling it. -/
theorem runs_channel {R : sProp 𝕄} (t : ℕ) (i : Fin 8) {ol : Fin 1 → ℕ} {o o3 o2 o1 o0 : Fin 4 → ℕ} {hol hn hpk ho hlo}
    {h3 h2 h1 h0 hl3 hl2 hl1 hl0 hx3 hx2 hx1 hx0 hm3 hm2 hm1 hm0} {α : Type} {w3 w2 w1 w0 : Vec F S1x1x224x224 .f32 → Vec F S1x1x224x224 .f32}
    {k : Prog (TpuEff nD τ sig (Elt F) Λ₀ .tc) α} {Q : α → sProp 𝕄}
    (el : ol = labOff (bk t) i) (e : o = chOff (sl t) i)
    (e3 : o3 = chOff (sl t) i) (e2 : o2 = chOff (sl t) i) (e1 : o1 = chOff (sl t) i) (e0 : o0 = chOff (sl t) i)
    (f3 : ∀ v, w3 v = shapeCast S1x1x224x224 (dynamicRotate 1 223#32 none (shapeCast S224x224 v shapeCasts_S1x1x224x224_S224x224) rotates_S224x224_d1) shapeCasts_S224x224_S1x1x224x224)
    (f2 : ∀ v, w2 v = shapeCast S1x1x224x224 (dynamicRotate 1 1#32 none (shapeCast S224x224 v shapeCasts_S1x1x224x224_S224x224) rotates_S224x224_d1) shapeCasts_S224x224_S1x1x224x224)
    (f1 : ∀ v, w1 v = shapeCast S1x1x224x224 (dynamicRotate 0 223#32 none (shapeCast S224x224 v shapeCasts_S1x1x224x224_S224x224) rotates_S224x224_d0) shapeCasts_S224x224_S1x1x224x224)
    (f0 : ∀ v, w0 v = shapeCast S1x1x224x224 (dynamicRotate 0 1#32 none (shapeCast S224x224 v shapeCasts_S1x1x224x224_S224x224) rotates_S224x224_d0) shapeCasts_S224x224_S1x1x224x224)
    (hk : Runs c T X R (chSt t (i.val + 1)) k Q) :
    Runs c T X R (chSt t i.val)
      (smemLoad tabM (Rect.unit (s := S768) ol S1.size hol) hn hpk >>= fun l => Prog.lift (.load bufM (chRect o ho).toLoadRect hlo) >>= fun v =>
      if Scalar.cmpi .ne (Scalar.minsi (Scalar.maxsi l 0#32) 3#32) 0#32 = 1#1 then
        if Scalar.cmpi .ne (Scalar.subi (Scalar.minsi (Scalar.maxsi l 0#32) 3#32) 1#32) 0#32 = 1#1 then
          if Scalar.cmpi .ne (Scalar.subi (Scalar.subi (Scalar.minsi (Scalar.maxsi l 0#32) 3#32) 1#32) 1#32) 0#32 = 1#1 then
            (Prog.lift (.load bufM (chRect o3 h3).toLoadRect hl3) >>= fun _ => Prog.lift (.store bufM (chRect o3 h3) (w3 v) Finset.univ hx3 hm3) >>= fun _ => k)
          else
            (Prog.lift (.load bufM (chRect o2 h2).toLoadRect hl2) >>= fun _ => Prog.lift (.store bufM (chRect o2 h2) (w2 v) Finset.univ hx2 hm2) >>= fun _ => k)
        else
          (Prog.lift (.load bufM (chRect o1 h1).toLoadRect hl1) >>= fun _ => Prog.lift (.store bufM (chRect o1 h1) (w1 v) Finset.univ hx1 hm1) >>= fun _ => k)
      else
        (Prog.lift (.load bufM (chRect o0 h0).toLoadRect hl0) >>= fun _ => Prog.lift (.store bufM (chRect o0 h0) (w0 v) Finset.univ hx0 hm0) >>= fun _ => k)) Q := by
  refine wp_label c T X (bk t) i el ?_
  refine wp_fetch c T X (sl t) (bk t) i e (chSt_own t i.val) fun v hv => ?_
  exact runs_roll c T X t i e3 e2 e1 e0 rfl (hv _) (f3 v) (f2 v) (f1 v) (f0 v) hk

end Cert.Proof.Roll
-- ==== Proof.Parts.lean ====
module

public import proofs.«01_k».proof.Proof.Point

@[expose] public section

set_option maxRecDepth 16384

/-!
# The printed pieces of the body

What each piece does to the state, along the schedule.
-/

noncomputable section

namespace Cert.Proof.Roll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (T : S768.Idx → Elt F .i32) (X : S4x768x224x224.Idx → Elt F .f32)
variable {h1 : tabM.IsWhole} {h2 : xM.IsWhole} {h3 : oM.IsWhole} {h4 : bufM.IsWhole}

/-! ## Before the first point -/

theorem part1 {R : sProp 𝕄} (i : grid0.Coords) : Runs c T X R (primed 0)
    (k0_part1 i tabM h1 xM h2 oM h3 bufM h4 cc0_scratch1 cc0_scratch2) (fun r => iprop(⌜True⌝ ∗ Inv c T X R (primed 3))) := by
  rw [k0_part1_eq_skeleton]
  refine runs_prime c T X 0 (by decide) rfl rfl rfl ?_
  refine runs_prime c T X 1 (by decide) rfl rfl rfl ?_
  refine runs_prime c T X 2 (by decide) rfl rfl rfl ?_
  exact runs_ret c T X trivial

theorem part2 {R : sProp 𝕄} (i : grid0.Coords) : Runs c T X R (primed 3)
    (k0_part2 i tabM h1 xM h2 oM h3 bufM h4 cc0_scratch1 cc0_scratch2) (fun r => iprop(⌜True⌝ ∗ Inv c T X R (primed 7))) := by
  rw [k0_part2_eq_skeleton]
  refine runs_prime c T X 3 (by decide) rfl rfl rfl ?_
  refine runs_prime c T X 4 (by decide) rfl rfl rfl ?_
  refine runs_prime c T X 5 (by decide) rfl rfl rfl ?_
  refine runs_prime c T X 6 (by decide) rfl rfl rfl ?_
  exact runs_ret c T X trivial

/-! ## Channels -/

theorem part11 {R : sProp 𝕄} (t : Fin grid0.N) (x0 x1 x2 : BitVec 32) (x3 : BitVec 1) : Runs c T X R (chSt t.val 0)
    (k0_part11 (grid0.coords t) tabM h1 xM h2 oM h3 bufM h4 cc0_scratch1 cc0_scratch2 x0 x1 x2 x3)
    (fun r => iprop(⌜r.2.1 = label T (bk t.val) 2 ∧ r.2.2.1 = plane X (bk t.val) 2 ∧ r.2.2.2 = 0#32⌝ ∗ Inv c T X R (chSt t.val 2))) := by
  rw [k0_part11_eq_skeleton]
  refine runs_channel c T X t.val 0 (off10_eq t) (off11_eq t) (off12_eq t) (off13_eq t) (off14_eq t) (off15_eq t)
    (fun _ => rfl) (fun _ => rfl) (fun _ => rfl) (fun _ => rfl) ?_
  refine runs_channel c T X t.val 1 (off16_eq t) (off17_eq t) (off18_eq t) (off19_eq t) (off20_eq t) (off21_eq t)
    (fun _ => rfl) (fun _ => rfl) (fun _ => rfl) (fun _ => rfl) ?_
  refine wp_label c T X (bk t.val) 2 (off22_eq t) ?_
  refine wp_fetch c T X (sl t.val) (bk t.val) 2 (off23_eq t) (chSt_own t.val 2) fun v hv => ?_
  exact runs_ret c T X ⟨rfl, hv _, rfl⟩

theorem part10 {R : sProp 𝕄} (t : Fin grid0.N) (x0 x1 : BitVec 32) (x2 : BitVec 1) : Runs c T X R (midSt t.val)
    (k0_part10 (grid0.coords t) tabM h1 xM h2 oM h3 bufM h4 cc0_scratch1 cc0_scratch2 x0 x1 x2)
    (fun r => iprop(⌜True⌝ ∗ Inv c T X R (chSt t.val 0))) := by
  have ht : t.val < 384 := t.isLt
  rw [k0_part10_eq_skeleton]
  refine wp_inWait c T X (sl t.val) (bk t.val) (off7_eq t) (off8_eq t) (off9_eq t) (ringMid_own ⟨t.val, ht⟩) (xsMid_own t.val ht)
    (runs_state c T X (midSt_next t.val ht) ?_)
  exact runs_ret c T X trivial

theorem part12 {R : sProp 𝕄} (t : Fin grid0.N) (x0 x1 : BitVec 32) (l : Elt F .i32) (p : FVec F S224x224 .f32) (z : BitVec 32)
    (hl : l = label T (bk t.val) 2) (hp : p = plane X (bk t.val) 2) (hz : z = 0#32) : Runs c T X R (chSt t.val 2)
    (k0_part12 (grid0.coords t) tabM h1 xM h2 oM h3 bufM h4 cc0_scratch1 cc0_scratch2 x0 x1 l p z)
    (fun r => iprop(⌜True⌝ ∗ Inv c T X R (chSt t.val 6))) := by
  subst hz
  rw [k0_part12_eq_skeleton]
  refine runs_roll c T X t.val 2 (off24_eq t) (off25_eq t) (off26_eq t) (off27_eq t) hl hp rfl rfl rfl rfl ?_
  refine runs_channel c T X t.val 3 (off28_eq t) (off29_eq t) (off30_eq t) (off31_eq t) (off32_eq t) (off33_eq t)
    (fun _ => rfl) (fun _ => rfl) (fun _ => rfl) (fun _ => rfl) ?_
  refine runs_channel c T X t.val 4 (off34_eq t) (off35_eq t) (off36_eq t) (off37_eq t) (off38_eq t) (off39_eq t)
    (fun _ => rfl) (fun _ => rfl) (fun _ => rfl) (fun _ => rfl) ?_
  refine runs_channel c T X t.val 5 (off40_eq t) (off41_eq t) (off42_eq t) (off43_eq t) (off44_eq t) (off45_eq t)
    (fun _ => rfl) (fun _ => rfl) (fun _ => rfl) (fun _ => rfl) ?_
  exact runs_ret c T X trivial

theorem part13 {R : sProp 𝕄} (t : Fin grid0.N) (x0 x1 x2 : BitVec 32) : Runs c T X R (chSt t.val 6)
    (k0_part13 (grid0.coords t) tabM h1 xM h2 oM h3 bufM h4 cc0_scratch1 cc0_scratch2 x0 x1 x2)
    (fun r => iprop(⌜True⌝ ∗ Inv c T X R (chSt t.val 8))) := by
  rw [k0_part13_eq_skeleton]
  refine runs_channel c T X t.val 6 (off46_eq t) (off47_eq t) (off48_eq t) (off49_eq t) (off50_eq t) (off51_eq t)
    (fun _ => rfl) (fun _ => rfl) (fun _ => rfl) (fun _ => rfl) ?_
  refine runs_channel c T X t.val 7 (off52_eq t) (off53_eq t) (off54_eq t) (off55_eq t) (off56_eq t) (off57_eq t)
    (fun _ => rfl) (fun _ => rfl) (fun _ => rfl) (fun _ => rfl) ?_
  exact runs_ret c T X trivial

/-! ## The copy out, and the waits after the last point -/

theorem part14 {R : sProp 𝕄} (t : Fin grid0.N) (a x1 x2 x3 x4 x5 : BitVec 32) : Runs c T X R (chSt t.val 8)
    (k0_part14 (grid0.coords t) tabM h1 xM h2 oM h3 bufM h4 cc0_scratch1 cc0_scratch2 a x1 x2 x3 x4 x5)
    (fun r => iprop(⌜r = Scalar.extui (Scalar.cmpi .eq a 383#32)⌝ ∗ Inv c T X R (atSt (t.val + 1)))) := by
  have ht : t.val < 384 := t.isLt
  rw [k0_part14_eq_skeleton]
  refine wp_outStart c T X (sl t.val) (bk t.val) (off58_eq t) (off60_eq t) (off59_eq t) (chSt_own t.val 8) (osMid_own t.val ht)
    (runs_state c T X (chSt_end ⟨t.val, ht⟩) ?_)
  exact runs_ret c T X rfl

theorem part5 {R : sProp 𝕄} (i : grid0.Coords) : Runs c T X R (drained 0)
    (k0_part5 i tabM h1 xM h2 oM h3 bufM h4 cc0_scratch1 cc0_scratch2) (fun r => iprop(⌜True⌝ ∗ Inv c T X R (drained 3))) := by
  rw [k0_part5_eq_skeleton]
  refine runs_drain c T X 0 (by decide) rfl rfl rfl ?_
  refine runs_drain c T X 1 (by decide) rfl rfl rfl ?_
  refine runs_drain c T X 2 (by decide) rfl rfl rfl ?_
  exact runs_ret c T X trivial

theorem part6 {R : sProp 𝕄} (i : grid0.Coords) : Runs c T X R (drained 3)
    (k0_part6 i tabM h1 xM h2 oM h3 bufM h4 cc0_scratch1 cc0_scratch2) (fun r => iprop(⌜True⌝ ∗ Inv c T X R (drained 7))) := by
  rw [k0_part6_eq_skeleton]
  refine runs_drain c T X 3 (by decide) rfl rfl rfl ?_
  refine runs_drain c T X 4 (by decide) rfl rfl rfl ?_
  refine runs_drain c T X 5 (by decide) rfl rfl rfl ?_
  refine runs_drain c T X 6 (by decide) rfl rfl rfl ?_
  exact runs_ret c T X trivial

theorem part7 {R : sProp 𝕄} (i : grid0.Coords) : Runs c T X R (drained 7)
    (k0_part7 i tabM h1 xM h2 oM h3 bufM h4 cc0_scratch1 cc0_scratch2) (fun r => iprop(⌜True⌝ ∗ Inv c T X R (drained 11))) := by
  rw [k0_part7_eq_skeleton]
  refine runs_drain c T X 7 (by decide) rfl rfl rfl ?_
  refine runs_drain c T X 8 (by decide) rfl rfl rfl ?_
  refine runs_drain c T X 9 (by decide) rfl rfl rfl ?_
  refine runs_drain c T X 10 (by decide) rfl rfl rfl ?_
  exact runs_ret c T X trivial

theorem part8 {R : sProp 𝕄} (i : grid0.Coords) : Runs c T X R (drained 11)
    (k0_part8 i tabM h1 xM h2 oM h3 bufM h4 cc0_scratch1 cc0_scratch2) (fun r => iprop(⌜True⌝ ∗ Inv c T X R (drained 15))) := by
  rw [k0_part8_eq_skeleton]
  refine runs_drain c T X 11 (by decide) rfl rfl rfl ?_
  refine runs_drain c T X 12 (by decide) rfl rfl rfl ?_
  refine runs_drain c T X 13 (by decide) rfl rfl rfl ?_
  refine runs_drain c T X 14 (by decide) rfl rfl rfl ?_
  exact runs_ret c T X trivial

/-! ## The copy in of block `t + 8` -/

theorem part3 {R : sProp 𝕄} (i : grid0.Coords) (σ : St) (a : BitVec 32) : Runs c T X R σ
    (k0_part3 i tabM h1 xM h2 oM h3 bufM h4 cc0_scratch1 cc0_scratch2 a) (fun r => iprop(⌜True⌝ ∗ Inv c T X R σ)) := by
  rw [k0_part3_eq_skeleton]
  exact runs_ret c T X trivial

/-- After the wait for the copy out of block `t - 8`, where there was one. -/
def refillSt (t : ℕ) : St := if 8 ≤ t then ((atSt t).setRing (sl (t + 8)) .free).setO (bk (t - 8)) .done else atSt t

theorem part4 {R : sProp 𝕄} (t : Fin grid0.N) (a : BitVec 32) (hc : k0_cond2 (grid0.coords t) = 1#1) : Runs c T X R (atSt t.val)
    (k0_part4 (grid0.coords t) tabM h1 xM h2 oM h3 bufM h4 cc0_scratch1 cc0_scratch2 a hc)
    (fun r => iprop(⌜True⌝ ∗ Inv c T X R (refillSt t.val))) := by
  have ht : t.val < 384 := t.isLt
  have hlt := (cond2_iff t).mp hc
  rw [k0_part4_eq_skeleton]
  unfold k0_part4_skel
  dsimp only
  split_ifs with h
  · have h8 := (cond3_iff t hc).mp h
    refine runs_seq c T X (part3 c T X _ _ _) fun r _ => ?_
    refine wp_outWait c T X (sl (t.val + 8)) (bk (t.val - 8)) (off1_eq t h8 hlt) (off3_eq t h8 hlt) (off2_eq t h8 hlt)
      (ringAt_next_out ⟨t.val, ht⟩ h8 hlt) (osAt_prev t.val h8 hlt) (runs_state c T X (σ' := refillSt t.val) (by unfold refillSt; rw [if_pos h8]) ?_)
    exact runs_ret c T X trivial
  · have h8 : ¬ 8 ≤ t.val := fun h8 => h ((cond3_iff t hc).mpr h8)
    refine runs_state c T X (σ' := refillSt t.val) (by unfold refillSt; rw [if_neg h8]) ?_
    exact runs_ret c T X trivial

theorem refill_ring (t : Fin grid0.N) (h : t.val + 8 < 384) : (refillSt t.val).ring (sl (t.val + 8)) = .free := by
  have ht : t.val < 384 := t.isLt
  unfold refillSt
  split_ifs with h8
  · exact Function.update_self ..
  · exact ringAt_next_free ⟨t.val, ht⟩ (by simpa using h8)
theorem refill_xs (t : Fin grid0.N) (h : t.val + 8 < 384) : (refillSt t.val).xs (bk (t.val + 8)) = true := by
  unfold refillSt
  split_ifs with h8
  · exact xsAt_next t.val h
  · exact xsAt_next t.val h
theorem refill_next (t : Fin grid0.N) (h : t.val + 8 < 384) :
    ((refillSt t.val).setRing (sl (t.val + 8)) (.inn (bk (t.val + 8)))).setX (bk (t.val + 8)) false = midSt t.val := by
  unfold refillSt
  split_ifs with h8
  · exact atSt_refill t.val h8 h
  · exact atSt_fill t.val (by omega) h

/-! ## From the start of a point to its own block -/

theorem first_iff : ∀ t : Fin grid0.N,
    Scalar.cmpi .ne (Scalar.extui (Scalar.cmpi .eq (BitVec.ofNat 32 (grid0.coords t 0).val) 0#32) : BitVec 32) 0#32 = 1#1 ↔ t.val = 0 := by
  decide +kernel
theorem last_iff : ∀ t : Fin grid0.N,
    Scalar.cmpi .ne (Scalar.extui (Scalar.cmpi .eq (BitVec.ofNat 32 (grid0.coords t 0).val) 383#32) : BitVec 32) 0#32 = 1#1 ↔ t.val = 383 := by
  decide +kernel

theorem startSt_zero : startSt 0 = primed 0 := primed_zero
theorem startSt_pos (t : Fin grid0.N) (h : t.val ≠ 0) : startSt t.val = atSt t.val := by
  have ht : t.val < 384 := t.isLt
  unfold startSt
  rw [if_neg h, if_neg (by omega)]

/-- The second half of the piece: the copy in of block `t + 8`, where there is one. -/
theorem part9 {R : sProp 𝕄} (t : Fin grid0.N) : Runs c T X R (startSt t.val)
    (k0_part9 (grid0.coords t) tabM h1 xM h2 oM h3 bufM h4 cc0_scratch1 cc0_scratch2)
    (fun r => iprop(⌜r.1 = BitVec.ofNat 32 (grid0.coords t 0).val⌝ ∗ Inv c T X R (midSt t.val))) := by
  rw [k0_part9_eq_skeleton]
  unfold k0_part9_skel
  extract_lets a v0 v1 v2 v35 jp0 jp1
  have hjp : Runs c T X R (atSt t.val) (jp1 ⟨⟩) (fun r => iprop(⌜r.1 = BitVec.ofNat 32 (grid0.coords t 0).val⌝ ∗ Inv c T X R (midSt t.val))) := by
    by_cases h : k0_cond2 (grid0.coords t) = 1#1
    · unfold jp1
      rw [dif_pos h]
      have hlt := (cond2_iff t).mp h
      refine runs_seq c T X (part4 c T X t _ h) fun r _ => ?_
      refine wp_inStart c T X (sl (t.val + 8)) (bk (t.val + 8)) (off4_eq t hlt) (off5_eq t hlt) (off6_eq t hlt)
        (refill_ring t hlt) (refill_xs t hlt) (runs_state c T X (refill_next t hlt) ?_)
      exact runs_ret c T X rfl
    · unfold jp1
      rw [dif_neg h]
      have hlt : ¬ t.val + 8 < 384 := fun hlt => h ((cond2_iff t).mpr hlt)
      refine runs_state c T X (atSt_same t.val hlt) ?_
      exact runs_ret c T X rfl
  split_ifs with h
  · have h0 := (first_iff t).mp h
    refine runs_state c T X (σ' := primed 0) (by rw [h0]; exact startSt_zero) ?_
    refine runs_seq c T X (part1 c T X _) fun _ _ => ?_
    refine runs_seq c T X (part2 c T X _) fun _ _ => ?_
    refine runs_prime c T X 7 (by decide) rfl rfl rfl ?_
    exact runs_state c T X (primed_eight.trans (by rw [h0])) hjp
  · have h0 : t.val ≠ 0 := fun h0 => h ((first_iff t).mpr h0)
    exact runs_state c T X (startSt_pos t h0) hjp

/-! ## The whole body -/

theorem startSt_succ (t : Fin grid0.N) (h : t.val ≠ 383) : atSt (t.val + 1) = startSt (t.val + 1) := by
  have ht : t.val < 384 := t.isLt
  unfold startSt
  rw [if_neg (by omega), if_neg (by omega)]

/-- One grid point takes the state before it to the state after it. -/
theorem point {R : sProp 𝕄} (t : Fin grid0.N) : Runs c T X R (startSt t.val)
    (cc0__roll_kernel (grid0.coords t) tabM h1 xM h2 oM h3 bufM h4 cc0_scratch1 cc0_scratch2)
    (fun _ => iprop(⌜True⌝ ∗ Inv c T X R (startSt (t.val + 1)))) := by
  rw [cc0__roll_kernel_eq_skeleton]
  unfold cc0__roll_kernel_skel
  refine runs_seq c T X (part9 c T X t) fun r9 h9 => ?_
  obtain ⟨a, b9, c9⟩ := r9
  dsimp only at h9 ⊢
  subst h9
  refine runs_seq c T X (part10 c T X t _ _ _) fun r10 _ => ?_
  refine runs_seq c T X (part11 c T X t _ _ _ _) fun r11 h11 => ?_
  refine runs_seq c T X (part12 c T X t _ _ _ _ _ h11.1 h11.2.1 h11.2.2) fun _ _ => ?_
  refine runs_seq c T X (part13 c T X t _ _ _) fun r13 _ => ?_
  refine runs_seq c T X (part14 c T X t _ _ _ _ _ _) fun r14 h14 => ?_
  subst h14
  split_ifs with h
  · have h0 := (last_iff t).mp h
    refine runs_state c T X (σ' := drained 0) (by rw [h0]; exact drained_zero) ?_
    refine runs_seq c T X (part5 c T X _) fun _ _ => ?_
    refine runs_seq c T X (part6 c T X _) fun _ _ => ?_
    refine runs_seq c T X (part7 c T X _) fun _ _ => ?_
    refine runs_seq c T X (part8 c T X _) fun _ _ => ?_
    refine runs_drain c T X 15 (by decide) rfl rfl rfl ?_
    refine runs_state c T X (σ' := startSt (t.val + 1)) (drained_sixteen.trans (by rw [h0]; rfl)) ?_
    exact runs_ret c T X trivial
  · have h0 : t.val ≠ 383 := fun h0 => h ((last_iff t).mpr h0)
    refine runs_state c T X (startSt_succ t h0) ?_
    exact runs_ret c T X trivial

end Cert.Proof.Roll
-- ==== Proof.Ends.lean ====
module

public import proofs.«01_k».proof.Proof.Parts
public import proofs.«01_k».proof.Proof.Gen.KernelIdeal.Launch
public import Idealize.ShloMosaic.Lib.Pipeline.FrameValue
public import Idealize.ShloMosaic.Lib.Ring

@[expose] public section

set_option maxRecDepth 16384

/-!
# Before the first point and after the last

The launch hands the core the operand, the result, the ring buffer whole, and the thirty-two counters at zero. Cut into
blocks and slots they are the first state; the last state joins back to them, the result holding `target`.
-/

noncomputable section

namespace Cert.Proof.Roll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The counters the kernel itself uses: the sixteen of copies in, the sixteen of copies out. -/
def cells : Fin 16 ⊕ Fin 16 → SemLoc sig := Sum.elim isem osem

theorem cells_own : Pipeline.OwnSemFacts spec0 cells := by decide +kernel

variable (c : Dev nD) (T : S768.Idx → Elt F .i32) (X : S4x768x224x224.Idx → Elt F .f32)

/-- What the core holds in state `σ`, its tally of waits set aside. -/
def Held (R : sProp 𝕄) (σ : St) : sProp 𝕄 :=
  iprop(Ring.AtW (Φring c T X) σ.ring ∗ Ring.AtW (Φx c X) σ.xs ∗ Ring.AtW (Φo c T X) σ.os ∗ tabP c T ∗ R)

/-- The counters, array by array. -/
theorem cells_split : (Pipeline.ownSems0 (τ := τ) cells c : sProp 𝕄)
    = iprop(bigSep Finset.univ (fun s => iZ c s) ∗ bigSep Finset.univ (fun s => oZ c s)) := by
  unfold Pipeline.ownSems0
  exact bigSep_univ_sum _

/-- The ring buffer, slot by slot. -/
theorem ring_split (f : S16x8x224x224.Idx → Elt F .f32) :
    (((c : Thread nD τ).loc cc0_scratch0) ↦{fullShare} f : sProp 𝕄) = bigSep Finset.univ fun s => slotP c s f := by
  refine (Ring.pointsTo_blocks (ℓ := (c : Thread nD τ).loc cc0_scratch0) slotSet slotSet_disjoint slotSet_cover f).trans ?_
  exact bigSep_congr fun s _ => by rw [← slot_set s]
/-- The operand, block by block. -/
theorem x_split : (((c : Thread nD τ).loc main_arg0) ↦{fullShare} X : sProp 𝕄) = bigSep Finset.univ fun b => xP c X b := by
  refine (Ring.pointsTo_blocks (ℓ := (c : Thread nD τ).loc main_arg0) blkSet blkSet_disjoint blkSet_cover X).trans ?_
  exact bigSep_congr fun b _ => by rw [← xBlk_set b]
/-- The result, block by block. -/
theorem o_split (f : S4x768x224x224.Idx → Elt F .f32) :
    (((c : Thread nD τ).loc main_v10) ↦{fullShare} f : sProp 𝕄) = bigSep Finset.univ fun b => oP c b f := by
  refine (Ring.pointsTo_blocks (ℓ := (c : Thread nD τ).loc main_v10) blkSet blkSet_disjoint blkSet_cover f).trans ?_
  exact bigSep_congr fun b _ => by rw [← oBlk_set b]

/-- Every block of the operand at home. -/
theorem x_home : (bigSep Finset.univ fun b => xP c X b : sProp 𝕄) = Ring.AtW (Φx c X) (fun _ => true) := rfl
/-- Every block of the result done. -/
theorem o_done : (Ring.AtW (Φo c T X) (fun _ => .done) : sProp 𝕄) = bigSep Finset.univ fun b => oP c b (target T X) := rfl

/-- The slots, each at some contents, are the ring buffer at some contents. -/
theorem ring_join : bigSep Finset.univ (fun s => iprop(∃ f, slotP c s f)) ⊢ (iprop(∃ f, ((c : Thread nD τ).loc cc0_scratch0) ↦{fullShare} f) : sProp 𝕄) := by
  have h := Ring.pointsTo_blocks_join_exists (Ix := Unit) (Name := ℕ) (U := UU nD τ) (Lvl := ℕ) (Val := Elt F) (ℓ := (c : Thread nD τ).loc cc0_scratch0)
    slotSet slotSet_disjoint slotSet_cover (q := fullShare) (fun _ => Classical.arbitrary _)
  have e : (bigSep Finset.univ fun s => iprop(∃ f, slotP (F := F) c s f))
      = bigSep Finset.univ fun s => iprop(∃ f, ((c : Thread nD τ).loc cc0_scratch0) ↦[slotSet s]{fullShare} f) :=
    bigSep_congr fun s _ => by rw [← slot_set s]; rfl
  exact (Entails.of_eq e).trans h

/-- From what the launch hands over to the first state. -/
theorem enter {R : sProp 𝕄} (f : S4x768x224x224.Idx → Elt F .f32) :
    iprop((∃ g, ((c : Thread nD τ).loc cc0_scratch0) ↦{fullShare} g) ∗ Pipeline.ownSems0 (τ := τ) cells c
      ∗ (((c : Thread nD τ).loc main_arg0) ↦{fullShare} X) ∗ (((c : Thread nD τ).loc main_v10) ↦{fullShare} f) ∗ tabP c T ∗ R)
      ⊢ Held c T X R firstSt := by
  rw [cells_split, x_split, o_split]
  have ho : bigSep Finset.univ (fun b => oP c b f) ⊢ (Ring.AtW (Φo c T X) firstSt.os : sProp 𝕄) :=
    bigSep_mono fun b _ => by
      show oP c b f ⊢ iprop(∃ f, oP c b f)
      iintro H; iexists f; iexact H
  have hr : ∀ g, iprop(bigSep Finset.univ (fun s => slotP c s g) ∗ bigSep Finset.univ (fun s => iZ c s) ∗ bigSep Finset.univ (fun s => oZ c s))
      ⊢ (Ring.AtW (Φring c T X) firstSt.ring : sProp 𝕄) := fun g => by
    rw [← bigSep_sep', ← bigSep_sep']
    refine bigSep_mono fun s _ => ?_
    show iprop(slotP c s g ∗ iZ c s ∗ oZ c s) ⊢ iprop((∃ f, slotP c s f) ∗ iZ c s ∗ oZ c s)
    iintro ⟨H, Hi, Ho⟩
    isplitl [H]; · iexists g; iexact H
    isplitl [Hi]; · iexact Hi
    iexact Ho
  unfold Held
  iintro ⟨⟨%g, Hg⟩, ⟨Hi, Hz⟩, Hx, Ho, Ht, HR⟩
  ihave Hg := (Entails.of_eq (ring_split c g)) $$ Hg
  isplitl [Hg Hi Hz]
  · iapply (hr g)
    isplitl [Hg]; · iexact Hg
    isplitl [Hi]; · iexact Hi
    iexact Hz
  isplitl [Hx]; · iapply (Entails.of_eq (x_home c X)); iexact Hx
  isplitl [Ho]; · iapply ho; iexact Ho
  isplitl [Ht]; · iexact Ht
  iexact HR

/-- From the last state to what the launch takes back. -/
theorem leave {R : sProp 𝕄} :
    Held c T X R lastSt ⊢ iprop((∃ g, ((c : Thread nD τ).loc cc0_scratch0) ↦{fullShare} g) ∗ Pipeline.ownSems0 (τ := τ) cells c
      ∗ (((c : Thread nD τ).loc main_arg0) ↦{fullShare} X) ∗ (((c : Thread nD τ).loc main_v10) ↦{fullShare} target T X) ∗ tabP c T ∗ R) := by
  rw [cells_split, x_split, o_split]
  have hr : (Ring.AtW (Φring c T X) lastSt.ring : sProp 𝕄)
      = iprop(bigSep Finset.univ (fun s => iprop(∃ f, slotP c s f)) ∗ bigSep Finset.univ (fun s => iZ c s) ∗ bigSep Finset.univ (fun s => oZ c s)) := by
    rw [← bigSep_sep', ← bigSep_sep']; rfl
  unfold Held
  rw [hr]
  iintro ⟨⟨Hg, Hi, Hz⟩, Hx, Ho, Ht, HR⟩
  isplitl [Hg]; · iapply (ring_join c); iexact Hg
  isplitl [Hi Hz]
  · isplitl [Hi]; · iexact Hi
    iexact Hz
  isplitl [Hx]; · iapply (Entails.of_eq (x_home c X).symm); iexact Hx
  isplitl [Ho]; · iapply (Entails.of_eq (o_done c T X)); iexact Ho
  isplitl [Ht]; · iexact Ht
  iexact HR

end Cert.Proof.Roll

end
-- ==== Proof.Run.lean ====
module

public import proofs.«01_k».proof.Proof.Ends

@[expose] public section

set_option maxRecDepth 16384

/-!
# The whole run

The host operations compute the label table; then the launch runs the kernel's body at the 384 points. The program ends
with the result at `target` of the table and the operand, its arguments unchanged and every counter at zero. Stated for
any float values.
-/

noncomputable section

namespace Cert.Proof.Roll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat BodyObligation)

variable {F : FTy → Type} [FloatOps F]

local notation "𝕄" => MT nD τ sig Unit (Elt F) ℕ (UU nD τ) ℕ

variable (m : (ℓ : Loc nD τ sig) → Buf (Elt F) ℓ) (g : Dev nD → PrngReg)

/-- The host operations before the launch. -/
abbrev hostLines : List (List (HloOp τ sig (Elt F))) := [hostOps0, hostOps0_1, hostOps0_2]

/-- The contents of the buffers when the launch begins. -/
@[irreducible] def V (c : Dev nD) (b : Ref sig .tc) : Buf (Elt F) ((c : Thread nD τ).loc b) :=
  StableHlo.after (hostLines (F := F)).flatten (fun b => m (c, b)) b

theorem V_eq : V m = fun (c : Dev nD) (b : Ref sig .tc) => StableHlo.after (hostLines (F := F)).flatten (fun b => m (c, b)) b := by
  unfold V; rfl

/-- The label table the host operations leave. -/
def labels (c : Dev nD) : S768.Idx → Elt F .i32 := V m c main_v9

/-- What the host operations write. -/
def hostWrites : List (Ref sig .tc) :=
  [main_c, main_v0, main_v1, main_c_0,
   main_call0_v0, main_call0_v1, main_call0_v2, main_call0_v3, main_call0_v4, main_call0_v5, main_call0_v6, main_call0_v7, main_call0_v8,
   main_call0_c, main_call0_v9, main_call0_v10, main_call0_v11, main_call0_c_0, main_call0_v12, main_call0_v13, main_v2,
   main_c_1, main_v3, main_v4, main_c_2, main_v5, main_v6, main_v7, main_v8, main_v9]

/-- A buffer the host operations do not write is as it was. -/
theorem V_unwritten (c : Dev nD) (b : Ref sig .tc) (hb : b ∉ hostWrites) : V m c b = m ((c : Thread nD τ).loc b) := by
  rw [V_eq]
  exact StableHlo.after_of_writes_sub (hostLines (F := F)).flatten (fun b => m (c, b))
    (StableHlo.forall_writes_sub_of_map (W := hostWrites) rfl) hb

theorem V_arg0 (c : Dev nD) : V m c main_arg0 = m ((c : Thread nD τ).loc main_arg0) := V_unwritten m c main_arg0 (by decide +kernel)
theorem V_arg1 (c : Dev nD) : V m c main_arg1 = m ((c : Thread nD τ).loc main_arg1) := V_unwritten m c main_arg1 (by decide +kernel)

/-- The program up to the launch. -/
theorem hmain : Pipeline.HMainP (Ix := Unit) (Name := ℕ) (U := Pipeline.UD sig nD τ) (Lvl := ℕ) (pcfgs (F := F)) 0 defs₀ 𝒱₀ m (main (F := F)) (V m) := by
  rw [V_eq]
  exact Pipeline.hmainP_prefixes pcfgs 0 defs₀ 𝒱₀ m main hostLines
    ⟨hostOps0_sub, hostOps0_1_sub, hostOps0_2_sub⟩ (by simp only [List.forall_iff_forall_mem]; intro ops ho op h; fin_cases ho <;> fin_cases h <;> rfl)
    fun c => main_chain c

/-- The contents of the table the launch is read at. -/
def adm (_ : Fin 1) : (pcfg0 (F := F)).Adm := ⟨fun k => V m 0 (pre0.ref k), trivial⟩

/-- What the launch hands over beside the state's pieces. -/
abbrev Rest (c : Dev nD) : sProp 𝕄 := iprop(∃ r, prngReg c r)

/-- The proof data of the launch: before point `t` the core holds the state `startSt t`. -/
def dats (_ : Fin 1) (c : Dev nD) : Dat τ (Elt F) Unit ℕ (Pipeline.UD sig nD τ) ℕ (cfg0 (adm m 0)) c where
  A w := w.elim0
  after w t := w.elim0
  Φ t := Held c (labels m 0) (V m c main_arg0) (Rest c) (startSt t.val)
  q _ := fullShare
  owed _ := 0

theorem body_tc (a : (pcfg0 (F := F)).Adm) : (defs₀ (F := F)) .tc (cfg0 a).body = fun x =>
    cc0__roll_kernel (grid0.coords x.1) tabM (Memref.isWhole_whole _) xM (Memref.isWhole_whole _) oM (Memref.isWhole_whole _) bufM (Memref.isWhole_whole _) cc0_scratch1 cc0_scratch2 := rfl
theorem body_eq (a : (pcfg0 (F := F)).Adm) (t : Fin (cfg0 a).N) : (defs₀ (F := F)) .tc (cfg0 a).body ((cfg0 a).bodyArgs t ((cfg0 a).slots t))
    = cc0__roll_kernel (grid0.coords t) tabM (Memref.isWhole_whole _) xM (Memref.isWhole_whole _) oM (Memref.isWhole_whole _) bufM (Memref.isWhole_whole _) cc0_scratch1 cc0_scratch2 :=
  (congrFun (body_tc a) _).trans rfl

/-- A launch without windows stages nothing. -/
theorem no_windows (P : Fin 0 → sProp 𝕄) : (bigSep Finset.univ P) = iprop(emp) := by
  rw [Finset.univ_eq_empty, bigSep_empty]; rfl

set_option backward.isDefEq.respectTransparency.types false in
theorem body_obligation (c : Dev nD) : BodyObligation (dats m 0 c) (defs₀ (F := F)) 𝒱₀ () Set.univ := fun t => by
  rw [no_windows, no_windows]
  rw [show (dats m 0 c).Φ t.castSucc = Held c (labels m 0) (V m c main_arg0) (Rest c) (startSt t.val) from rfl,
    show (dats m 0 c).Φ t.succ = Held c (labels m 0) (V m c main_arg0) (Rest c) (startSt (t.val + 1)) from rfl]
  unfold Dat.owesAt Pipeline.owesWithin
  rw [show (dats m 0 c).owed t.castSucc = 0 from rfl, show (dats m 0 c).owed t.succ = 0 from rfl]
  rw [body_eq (adm m 0) t]
  have h := point (R := Rest c) c (labels m 0) (V m c main_arg0) (h1 := Memref.isWhole_whole _) (h2 := Memref.isWhole_whole _)
    (h3 := Memref.isWhole_whole _) (h4 := Memref.isWhole_whole _) t
  unfold Runs Inv at h
  unfold Held
  iintro ⟨⟨H1, H2, H3, H4, H5⟩, ⟨%W, -, HW⟩, -⟩
  iapply (h.trans (wp_mono _ _ _ fun r => ?_))
  rotate_left
  · isplitl [H1]; · iexact H1
    isplitl [H2]; · iexact H2
    isplitl [H3]; · iexact H3
    isplitl [H4]; · iexact H4
    isplitl [HW]; · iexists W; iexact HW
    iexact H5
  iintro ⟨-, H1, H2, H3, H4, ⟨%W', HW⟩, H5⟩
  isplitl [H1 H2 H3 H4 H5]
  · isplitl [H1]; · iexact H1
    isplitl [H2]; · iexact H2
    isplitl [H3]; · iexact H3
    isplitl [H4]; · iexact H4
    iexact H5
  isplitl [HW]
  · iexists W'; isplitr; · ipureintro; exact fun _ _ => Or.inl trivial
    iexact HW
  iempintro

/-- What the written buffers hold at the end. -/
def G (c : Dev nD) (b : Ref sig .tc) : Buf (Elt F) ((c : Thread nD τ).loc b) :=
  Function.update (V m c) main_v10 (target (labels m 0) (V m c main_arg0)) b

theorem dev_eq (c : Dev nD) : c = 0 := Subsingleton.elim _ _

theorem table_held (c : Dev nD) : (Pipeline.ΦT pre0 (adm m 0).1 c : sProp 𝕄) = tabP c (labels m 0) := by
  unfold Pipeline.ΦT Pipeline.prefHeld
  exact (bigSep_univ_of_subsingleton (0 : Fin 1)).trans rfl

set_option backward.isDefEq.respectTransparency.types false in
theorem hin (c : Dev nD) : iprop(Pipeline.ΦDRG cells spec0 {main_arg0} {main_v10} (V m) (V m) c ∗ Pipeline.ΦT pre0 (adm m 0).1 c) ⊢ (dats m 0 c).Φ 0 := by
  rw [table_held, Pipeline.ΦDRG_eq, scopedRest0_eq, Pipeline.routed_singleton, bigSep_singleton]
  show _ ⊢ Held c (labels m 0) (V m c main_arg0) (Rest c) firstSt
  iintro ⟨⟨Hs, Hp, Hc, Hx, Ho⟩, Ht⟩
  iapply (enter c (labels m 0) (V m c main_arg0) (V m c main_v10))
  isplitl [Hs]; · iexact Hs
  isplitl [Hc]; · iexact Hc
  isplitl [Hx]; · iexact Hx
  isplitl [Ho]; · iexact Ho
  isplitl [Ht]; · iexact Ht
  iexact Hp

set_option backward.isDefEq.respectTransparency.types false in
theorem hout (c : Dev nD) : (dats m 0 c).Φ (Fin.last (cfg0 (adm m 0)).N) ⊢ Pipeline.ΦDRG cells spec0 {main_arg0} {main_v10} (V m) (G m) c := by
  rw [show (dats m 0 c).Φ (Fin.last (cfg0 (adm m 0)).N) = Held c (labels m 0) (V m c main_arg0) (Rest c) lastSt from rfl]
  rw [Pipeline.ΦDRG_eq, scopedRest0_eq, Pipeline.routed_singleton, bigSep_singleton,
    show G m c main_v10 = target (labels m 0) (V m c main_arg0) from Function.update_self ..]
  iintro H
  ihave H := (leave c (labels m 0) (V m c main_arg0)) $$ H
  icases H with ⟨Hs, Hc, Hx, Ho, -, Hp⟩
  isplitl [Hs]; · iexact Hs
  isplitl [Hp]; · iexact Hp
  isplitl [Hc]; · iexact Hc
  isplitl [Hx]; · iexact Hx
  iexact Ho

theorem mem_rest (b : Ref sig .tc) (hs : b.isScoped = false) (hv : b ≠ main_v9) : b ∈ Pipeline.restRefsP sig pre0 spec0 :=
  Finset.mem_sdiff.mpr ⟨Pipeline.mem_restRefs_of b hs (fun w => w.elim0), by
    simp only [Finset.mem_image, Finset.mem_univ, true_and, not_exists]
    intro k hk
    exact hv (hk.symm.trans (by rw [Subsingleton.elim k (0 : Fin 1)]; rfl))⟩

set_option backward.isDefEq.respectTransparency.types false in
set_option maxHeartbeats 1600000 in
/-- The launch's run, in the library's terms. -/
theorem run_launch : θ_run defs (onTc (τ := τ) (main (F := F))) (s₀ m g)
    (fun r => Pipeline.FramePostRG (Pipeline.pin pcfgs (adm m)) (dats m) 0 {main_v10} (V m) (G m) r ∧ r.2.sem = fun _ => 0) :=
  Pipeline.θ_run_frameP_dmaRG (Q' := _) pcfgs (adm m) (dats m) (0 : Fin 1) launch0 cells defs₀ 𝒱₀ cells_own {main_arg0} {main_v10}
    (Finset.singleton_subset_iff.mpr (mem_rest _ (by decide) (by decide)))
    (Finset.singleton_subset_iff.mpr (Finset.mem_sdiff.mpr ⟨mem_rest _ (by decide) (by decide), by decide⟩)) m g main
    (hbody := fun c => (body_obligation m c).loose) (hshare := fun c w => w.elim0) (howed := fun _ _ => rfl) (V := V m) (hmain := hmain m)
    (hA := fun c w => w.elim0) (hpf := fun c k => by rw [dev_eq c]; rfl) (G := G m)
    (hin := hin m) (hout := hout m)

/-- **The run.** From any memory with every counter at zero the program ends, the result holds `target` of the labels and
    the operand, the arguments are unchanged and every counter is at zero. -/
theorem run : θ_run defs (onTc (τ := τ) (main (F := F))) ⟨m, fun _ => 0, g⟩ (fun r =>
    (∀ c : Dev nD, r.2.mem ((c.tc : Thread nD τ).loc main_v10) = target (labels m 0) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run defs _ _).mono (fun r h => ⟨fun c => ⟨?_, ?_, ?_⟩, h.2⟩) (run_launch m g)
  · refine (h.1.2 c main_v10 (Finset.mem_singleton_self _)).trans ?_
    show Function.update (V m c) main_v10 (target (labels m 0) (V m c main_arg0)) main_v10 = _
    rw [Function.update_self, V_arg0]
  · exact ((h.1.1 c).2 main_arg0 (Finset.mem_sdiff.mpr ⟨Pipeline.mem_restRefs_of main_arg0 (by decide) (fun w => w.elim0), by decide⟩)).trans (V_arg0 m c)
  · exact ((h.1.1 c).2 main_arg1 (Finset.mem_sdiff.mpr ⟨Pipeline.mem_restRefs_of main_arg1 (by decide) (fun w => w.elim0), by decide⟩)).trans (V_arg1 m c)

end Cert.Proof.Roll

end
-- ==== Proof.Frames.lean ====
/- Each program on its own: it ends, its arguments are as they were, and every counter of the machine is at zero.
   The kernel as printed and the kernel at the ideal floats are one program over two kinds of float, so `Roll.run`, which is
   stated over any kind, serves both. The reference declares no semaphore at all. -/
module

public import proofs.«01_k».proof.Proof.Run
public import proofs.«01_k».proof.Defs
public import proofs.«01_k».proof.Proof.Gen.Kernel
public import proofs.«01_k».proof.Proof.Gen.ReferenceIdeal.Run
public import proofs.«01_k».proof.Proof.Gen.Pre_permutation
public import Idealize.ShloMosaic.Lib.Quiescent

@[expose] public section

noncomputable section

namespace Cert.Proof

open Idealize.ShloMosaic Idealize.SL.Sem

/-- The kernel at the ideal floats ends with its arguments unchanged and its counters at zero. -/
theorem frame_kernelIdeal : Cert.quiescent_KernelIdeal (hKernelIdeal := Cert.KernelIdeal.Gen.facts) := fun m g _ =>
  (θ_run _ _ _).mono (fun _ h => ⟨fun c => (h.1 c).2, h.2⟩) (Roll.run (F := Ideal) m g)

set_option maxRecDepth 65536 in
set_option maxHeartbeats 4000000 in
/-- The kernel as printed ends with its arguments unchanged and its counters at zero. -/
theorem frame_kernel : Cert.quiescent_Kernel (hKernel := Cert.Kernel.Gen.facts) := fun m g _ =>
  (θ_run (Cert.KernelIdeal.defs (F := Bits)) _ _).mono (fun _ h => ⟨fun c => (h.1 c).2, h.2⟩) (Roll.run (F := Bits) m g)

/-- The reference ends with its arguments unchanged; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

end Cert.Proof

end
-- ==== Proof.Take.lean ====
module

public import proofs.«01_k».proof.Proof.Gen.ReferenceIdeal
public import Idealize.ShloMosaic.Lib.ReduceAll
public import Idealize.ShloMosaic.Lib.WordCmp
public import Idealize.ShloMosaic.Lib.ValueIdxCore
public import Idealize.ShloMosaic.Lib.Pipeline.Value
public import Idealize.ShloMosaic.Lib.Routing.Ops
public import Idealize.ShloMosaic.Lib.Routing.OpsPair

/-
# Taking channels

The reference takes channels by a vector of words five times: four times the 192 channels of a quarter, and at the end all
768. A take corrects negative words, gathers with clamping, and puts a filler where a word was out of range. One lemma,
for any number of channels taken, says that a take whose words are in range reads the channel its word names.
-/

@[expose] public section

noncomputable section

namespace Cert.Proof

open Cert.ReferenceIdeal
open Idealize.ShloMosaic
open Idealize.ShloMosaic.ValueIdx (ix0 ix1 ix2 ix4)
open Idealize.ShloMosaic.Routing (shape0 shape1 shape2)

/-- A stack of `n` channels. -/
abbrev Stack (n : ℕ) : Shape := ⟨4, ![4, n, 224, 224]⟩

/-- The shape conditions a take of `n` channels rests on. -/
structure Takes (n : ℕ) : Prop where
  spread : shape0.BroadcastsInDim (shape1 n) (![] : Fin 0 → Fin (shape1 n).rank)
  column : (shape1 n).BroadcastsInDim (shape2 n 1) (![0] : Fin 1 → Fin (shape2 n 1).rank)
  spreadColumn : shape0.BroadcastsInDim (shape2 n 1) (![] : Fin 0 → Fin (shape2 n 1).rank)
  unit : (shape1 1).BroadcastsInDim (shape2 1 1) (![1] : Fin 1 → Fin (shape2 1 1).rank)
  rows : (shape2 1 1).BroadcastsInDim (shape2 n 1) (![0, 1] : Fin 2 → Fin (shape2 n 1).rank)
  reduces : (shape2 n 1).ReducesTo [1] (shape1 n)
  one : 0 < shape0.numel
  mask : (shape1 n).BroadcastsInDim (Stack n) (![1] : Fin 1 → Fin (Stack n).rank)
  spreadStack : shape0.BroadcastsInDim (Stack n) (![] : Fin 0 → Fin (Stack n).rank)
  gathers : GatherDims.WF S4x768x224x224 (shape2 n 1) (Stack n) [0, 2, 3] [1] [] [1] [] 1 ![4, 1, 224, 224]

/-- The gather of `n` whole channels. -/
abbrev channels {n : ℕ} (t : Takes n) : GatherDims S4x768x224x224 (shape2 n 1) (Stack n) where
  offsetDims := [0, 2, 3]
  collapsedSliceDims := [1]
  operandBatchingDims := []
  startIndicesBatchingDims := []
  startIndexMap := [1]
  indexVectorDim := 1
  sliceSizes := ![4, 1, 224, 224]
  wf := t.gathers

/-- The words of a take, the negative ones counted from the end, as a column. -/
def words {n : ℕ} (t : Takes n) (J : IVec (shape1 n) 32) : IVec (shape2 n 1) 32 :=
  broadcastInDim (shape2 n 1) ![0] t.column
    (select (cmpi .slt J (broadcastInDim (shape1 n) ![] t.spread (constantI S_ 32 0#32)))
      (addi J (broadcastInDim (shape1 n) ![] t.spread (constantI S_ 32 768#32))) J)

/-- Which words of a take are in range. -/
def inRange {n : ℕ} (t : Takes n) (J : IVec (shape1 n) 32) : IVec (shape1 n) 1 :=
  Host.reduce IntOp.andi
    (andi (cmpi .sge (words t J) (broadcastInDim (shape2 n 1) ![] t.spreadColumn (constantI S_ 32 0#32)))
      (cmpi .sle (words t J) (broadcastInDim (shape2 n 1) ![0, 1] t.rows (broadcastInDim (shape2 1 1) ![1] t.unit (constantI S1 32 767#32)))))
    (constantI S_ 1 1#1) t.reduces t.one

/-- A take of `n` channels. -/
def take {α : Type} {n : ℕ} (t : Takes n) (filler : S_.Idx → α) (X : S4x768x224x224.Idx → α) (J : IVec (shape1 n) 32) : (Stack n).Idx → α :=
  select (broadcastInDim (Stack n) ![1] t.mask (inRange t J)) (Host.gather (channels t) X (words t J))
    (broadcastInDim (Stack n) ![] t.spreadStack filler)

variable {α : Type} {n : ℕ} (t : Takes n) (filler : S_.Idx → α) (X : S4x768x224x224.Idx → α) (J : IVec (shape1 n) 32)

/-- A word in range is kept as it is. -/
theorem words_apply (k : Fin n → Fin 768) (hJ : ∀ p : Fin n, J (ix1 p) = BitVec.ofNat 32 (k p).val) (p : Fin n) (z : Fin 1) :
    words t J (ix2 p z) = BitVec.ofNat 32 (k p).val := by
  have hk := (k p).isLt
  obtain rfl : z = 0 := Subsingleton.elim _ _
  unfold words
  rw [Routing.bcCol t.column, WordCmp.select_at, WordCmp.cmpi_at, Routing.bc0 t.spread, WordCmp.constantI_at,
    Routing.wrap_of_lt _ _ (by rw [hJ, WordCmp.toNat_ofNat_of_lt (by omega)]; show (k p).val < 2 ^ 31; omega), hJ]

/-- All words in range: the mask is set everywhere. -/
theorem inRange_apply (k : Fin n → Fin 768) (hJ : ∀ p : Fin n, J (ix1 p) = BitVec.ofNat 32 (k p).val) (p : (shape1 n).Idx) :
    inRange t J p = 1#1 := by
  refine Host.reduce_andi_one _ _ _ _ _ rfl fun i => ?_
  obtain ⟨r, z, rfl⟩ : ∃ (r : Fin n) (z : Fin 1), i = ix2 r z := ⟨i 0, i 1, ValueIdx.eq_ix2 i⟩
  have hk := (k r).isLt
  have last : broadcastInDim (shape2 n 1) ![0, 1] t.rows (broadcastInDim (shape2 1 1) ![1] t.unit (constantI S1 32 767#32)) (ix2 r z) = 767#32 :=
    (broadcastInDim_apply _ t.rows _ _ (ix2 (0 : Fin 1) (0 : Fin 1)) fun a => by
      match a with
      | ⟨0, _⟩ => rfl
      | ⟨1, _⟩ => rfl).trans rfl
  rw [WordCmp.andi_at, WordCmp.cmpi_at, WordCmp.cmpi_at, last, Routing.bc0 t.spreadColumn, WordCmp.constantI_at, words_apply t J k hJ,
    WordCmp.cmpi_sge_ofNat (by show (k r).val < 2 ^ 31; omega) (by decide), WordCmp.cmpi_sle_ofNat (by show (k r).val < 2 ^ 31; omega) (by decide)]
  rw [decide_eq_true (Nat.zero_le _), decide_eq_true (show (k r).val ≤ 767 by omega)]
  rfl

/-- The gather reads the channel its word names. -/
theorem gather_apply (k : Fin n → Fin 768) (I : IVec (shape2 n 1) 32) (hI : ∀ (p : Fin n) (z : Fin 1), I (ix2 p z) = BitVec.ofNat 32 (k p).val)
    (a : Fin 4) (p : Fin n) (h w : Fin 224) : Host.gather (channels t) X I (ix4 a p h w) = X (ix4 a (k p) h w) := by
  have hk := (k p).isLt
  unfold Host.gather
  refine congrArg X (funext fun b => Fin.ext ?_)
  show (channels t).start (ix4 a p h w) I b + (channels t).batchCoord (ix4 a p h w) b + (channels t).offCoord (ix4 a p h w) b = _
  rw [GatherDims.batchCoord_eq_zero _ _ _ List.not_mem_nil]
  by_cases hb : b = 1
  · subst hb
    rw [GatherDims.offCoord_eq_zero _ _ _ (fun q => ((GatherDims.mem_sKept _ _).mp q).1 (List.mem_singleton.mpr rfl))]
    unfold GatherDims.start
    rw [dif_pos (show (1 : Fin 4) ∈ (channels t).startIndexMap from List.mem_singleton.mpr rfl)]
    have at0 : (channels t).siIdx (ix4 a p h w) ⟨List.idxOf (1 : Fin 4) (channels t).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [at0, hI, WordCmp.toInt_ofNat_of_lt (by show (k p).val < 2 ^ 31; omega)]
    show min ((k p).val : Int).toNat 767 + 0 + 0 = (k p).val
    rw [Int.toNat_natCast]; omega
  · unfold GatherDims.start GatherDims.offCoord
    rw [dif_neg (show b ∉ (channels t).startIndexMap from fun q => hb (List.mem_singleton.mp q)),
      dif_pos (show b ∈ (channels t).sKept from (GatherDims.mem_sKept _ _).mpr ⟨fun q => hb (List.mem_singleton.mp q), List.not_mem_nil⟩)]
    have axis : b = 0 ∨ b = 2 ∨ b = 3 := by revert b; decide
    obtain rfl | rfl | rfl := axis
    · exact Nat.zero_add _
    · exact Nat.zero_add _
    · exact Nat.zero_add _

/-- A take whose words are in range, read at an index. -/
theorem take_apply (k : Fin n → Fin 768) (hJ : ∀ p : Fin n, J (ix1 p) = BitVec.ofNat 32 (k p).val)
    (a : Fin 4) (p : Fin n) (h w : Fin 224) : take t filler X J (ix4 a p h w) = X (ix4 a (k p) h w) := by
  unfold take
  have set : broadcastInDim (Stack n) ![1] t.mask (inRange t J) (ix4 a p h w) = 1#1 := by
    unfold broadcastInDim; exact inRange_apply t J k hJ _
  rw [WordCmp.select_at, set]
  exact gather_apply t X k (words t J) (words_apply t J k hJ) a p h w

end Cert.Proof

end
-- ==== Proof.Turn.lean ====
module

public import proofs.«01_k».proof.Proof.State
public import Idealize.ShloMosaic.Lib.KernelVsHost

/-
# A roll read at an index

A plane rolled by one, whichever way, is read at an entry as the plane itself at a neighbouring entry. `srcRow` and
`srcCol` say which; `spec` says it of the whole tensor: channel `c` is rolled the way its quarter says, the quarter of the
place at which `indices` names `c`. Both programs are shown to compute `spec`.
-/

@[expose] public section

noncomputable section

namespace Cert.Proof.Roll

open Cert.KernelIdeal Cert.KernelIdeal.Gen
open Idealize.ShloMosaic
open Idealize.ShloMosaic.ValueIdx (ix1 ix2 ix3 ix4)

variable {F : FTy → Type} [FloatOps F]

/-- The row that a roll in direction `q` reads row `h` from. -/
def srcRow (q h : ℕ) : ℕ := if q = 0 then (h + 223) % 224 else if q = 1 then (h + 1) % 224 else h

/-- The column that a roll in direction `q` reads column `w` from. -/
def srcCol (q w : ℕ) : ℕ := if q = 2 then (w + 223) % 224 else if q = 3 then (w + 1) % 224 else w

theorem srcRow_lt (q : ℕ) (h : Fin 224) : srcRow q h.val < 224 := by
  unfold srcRow; split
  · omega
  · split
    · omega
    · exact h.isLt

theorem srcCol_lt (q : ℕ) (w : Fin 224) : srcCol q w.val < 224 := by
  unfold srcCol; split
  · omega
  · split
    · omega
    · exact w.isLt

/-- The tensor both programs compute: `place c` is where `indices` names channel `c`. -/
def spec {α : Type} (place : Fin 768 → Fin 768) (X : S4x768x224x224.Idx → α) (a : Fin 4) (c : Fin 768) (h w : Fin 224) : α :=
  X (ix4 a c ⟨srcRow ((place c).val / 192) h.val, srcRow_lt _ h⟩ ⟨srcCol ((place c).val / 192) w.val, srcCol_lt _ w⟩)

/-- A roll of the rows. -/
theorem rotate_rows {α : Type} (s : BitVec 32) (v : S224x224.Idx → α) (h w : Fin 224) (r : Fin 224)
    (hr : r.val = (h.val + 224 - s.toNat % 224) % 224) :
    dynamicRotate 0 s none v rotates_S224x224_d0 (ix2 h w) = v (ix2 r w) :=
  dynamicRotate_apply 0 s v _ _ _ fun b => by
    match b with
    | ⟨0, _⟩ => exact hr
    | ⟨1, _⟩ => rfl

/-- A roll of the columns. -/
theorem rotate_cols {α : Type} (s : BitVec 32) (v : S224x224.Idx → α) (h w : Fin 224) (r : Fin 224)
    (hr : r.val = (w.val + 224 - s.toNat % 224) % 224) :
    dynamicRotate 1 s none v rotates_S224x224_d1 (ix2 h w) = v (ix2 h r) :=
  dynamicRotate_apply 1 s v _ _ _ fun b => by
    match b with
    | ⟨0, _⟩ => rfl
    | ⟨1, _⟩ => exact hr

/-- The kernel's roll of a plane under label `q`, read at an entry. -/
theorem rolled_apply (q : ℕ) (hq : q < 4) (v : FVec F S224x224 .f32) (h w : Fin 224) :
    rolled (BitVec.ofNat 32 q) v (ix2 h w) = v (ix2 ⟨srcRow q h.val, srcRow_lt q h⟩ ⟨srcCol q w.val, srcCol_lt q w⟩) := by
  have hh := h.isLt
  have hw := w.isLt
  obtain rfl | rfl | rfl | rfl : q = 0 ∨ q = 1 ∨ q = 2 ∨ q = 3 := by omega
  · exact rotate_rows 1#32 v h w _ (by show (h.val + 223) % 224 = (h.val + 224 - 1) % 224; omega)
  · exact rotate_rows 223#32 v h w _ (by show (h.val + 1) % 224 = (h.val + 224 - 223) % 224; omega)
  · exact rotate_cols 1#32 v h w _ (by show (w.val + 223) % 224 = (w.val + 224 - 1) % 224; omega)
  · exact rotate_cols 223#32 v h w _ (by show (w.val + 1) % 224 = (w.val + 224 - 223) % 224; omega)

/-- The kernel's result from labels that are the quarters of the places. -/
theorem target_spec (place : Fin 768 → Fin 768) (T : S768.Idx → Elt F .i32) (X : S4x768x224x224.Idx → Elt F .f32)
    (hT : ∀ c : Fin 768, T (ix1 c) = BitVec.ofNat 32 ((place c).val / 192)) (a : Fin 4) (c : Fin 768) (h w : Fin 224) :
    target T X (ix4 a c h w) = spec place X a c h w := by
  show rolled (T (ix1 c)) (fun p => X (ix4 a c (⟨(p 0).val, (p 0).isLt⟩ : Fin 224) (⟨(p 1).val, (p 1).isLt⟩ : Fin 224))) (ix2 h w) = _
  rw [hT, rolled_apply _ (by have := (place c).isLt; omega)]
  rfl

end Cert.Proof.Roll

end
-- ==== Proof.Quarters.lean ====
module

public import proofs.«01_k».proof.Proof.Take
public import proofs.«01_k».proof.Proof.Turn

/-
# The four quarters

The reference rolls each quarter by cutting it in two and putting the pieces together the other way round, and then puts
the four rolled quarters one after the other.
-/

@[expose] public section

noncomputable section

namespace Cert.Proof

open Cert.ReferenceIdeal Cert.ReferenceIdeal.Gen
open Idealize.ShloMosaic
open Idealize.ShloMosaic.ValueIdx (ix0 ix1 ix2 ix4)
open Cert.Proof.Roll (srcRow srcCol srcRow_lt srcCol_lt)

variable {α : Type}

/-- A quarter with its last row first. -/
def down (Z : S4x192x224x224.Idx → α) : S4x192x224x224.Idx → α :=
  concatenate S4x192x224x224 2 [⟨S4x192x1x224, extractStridedSlice S4x192x1x224 ![0, 0, 223, 0] Z slices_S4x192x224x224_S4x192x1x224_0_0_223_0⟩,
    ⟨S4x192x223x224, extractStridedSlice S4x192x223x224 ![0, 0, 0, 0] Z slices_S4x192x224x224_S4x192x223x224_0_0_0_0⟩]
    concatenates_S4x192x1x224_S4x192x223x224_S4x192x224x224_d2

/-- A quarter with its first row last. -/
def up (Z : S4x192x224x224.Idx → α) : S4x192x224x224.Idx → α :=
  concatenate S4x192x224x224 2 [⟨S4x192x223x224, extractStridedSlice S4x192x223x224 ![0, 0, 1, 0] Z slices_S4x192x224x224_S4x192x223x224_0_0_1_0⟩,
    ⟨S4x192x1x224, extractStridedSlice S4x192x1x224 ![0, 0, 0, 0] Z slices_S4x192x224x224_S4x192x1x224_0_0_0_0⟩]
    concatenates_S4x192x223x224_S4x192x1x224_S4x192x224x224_d2

/-- A quarter with its last column first. -/
def right (Z : S4x192x224x224.Idx → α) : S4x192x224x224.Idx → α :=
  concatenate S4x192x224x224 3 [⟨S4x192x224x1, extractStridedSlice S4x192x224x1 ![0, 0, 0, 223] Z slices_S4x192x224x224_S4x192x224x1_0_0_0_223⟩,
    ⟨S4x192x224x223, extractStridedSlice S4x192x224x223 ![0, 0, 0, 0] Z slices_S4x192x224x224_S4x192x224x223_0_0_0_0⟩]
    concatenates_S4x192x224x1_S4x192x224x223_S4x192x224x224_d3

/-- A quarter with its first column last. -/
def left (Z : S4x192x224x224.Idx → α) : S4x192x224x224.Idx → α :=
  concatenate S4x192x224x224 3 [⟨S4x192x224x223, extractStridedSlice S4x192x224x223 ![0, 0, 0, 1] Z slices_S4x192x224x224_S4x192x224x223_0_0_0_1⟩,
    ⟨S4x192x224x1, extractStridedSlice S4x192x224x1 ![0, 0, 0, 0] Z slices_S4x192x224x224_S4x192x224x1_0_0_0_0⟩]
    concatenates_S4x192x224x223_S4x192x224x1_S4x192x224x224_d3

/-- A quarter read at an entry of rolled coordinates. -/
def turned (q : ℕ) (Z : S4x192x224x224.Idx → α) (a : Fin 4) (p : Fin 192) (h w : Fin 224) : α :=
  Z (ix4 a p ⟨srcRow q h.val, srcRow_lt q h⟩ ⟨srcCol q w.val, srcCol_lt q w⟩)

/-- A block cut out of a quarter, read at an index. -/
theorem cut_apply {b c : ℕ} (o₂ o₃ : ℕ) (Z : S4x192x224x224.Idx → α)
    (hs : S4x192x224x224.Slices (![0, 0, o₂, o₃] : Fin 4 → ℕ) ⟨4, ![4, 192, b, c]⟩) (a : Fin 4) (p : Fin 192) (i : Fin b) (j : Fin c)
    (h w : Fin 224) (hh : h.val = o₂ + i.val) (hw : w.val = o₃ + j.val) :
    extractStridedSlice ⟨4, ![4, 192, b, c]⟩ ![0, 0, o₂, o₃] Z hs (ix4 a p i j) = Z (ix4 a p h w) :=
  extractStridedSlice_apply _ Z hs _ _ fun x => by
    match x with
    | ⟨0, _⟩ => exact (Nat.zero_add _).symm
    | ⟨1, _⟩ => exact (Nat.zero_add _).symm
    | ⟨2, _⟩ => exact hh
    | ⟨3, _⟩ => exact hw

/-- Two pieces joined along the rows. -/
theorem join_rows {b c : ℕ} (x : (⟨4, ![4, 192, b, 224]⟩ : Shape).Idx → α) (y : (⟨4, ![4, 192, c, 224]⟩ : Shape).Idx → α)
    (hc : Shape.Concatenates [⟨4, ![4, 192, b, 224]⟩, ⟨4, ![4, 192, c, 224]⟩] S4x192x224x224 2) (a : Fin 4) (p : Fin 192) (h w : Fin 224) (v : α)
    (hx : ∀ i : Fin b, i.val = h.val → x (ix4 a p i w) = v) (hy : ∀ i : Fin c, i.val + b = h.val → y (ix4 a p i w) = v) (hbc : b + c = 224) :
    concatenate S4x192x224x224 2 [⟨⟨4, ![4, 192, b, 224]⟩, x⟩, ⟨⟨4, ![4, 192, c, 224]⟩, y⟩] hc (ix4 a p h w) = v := by
  have hh := h.isLt
  by_cases q : h.val < b
  · refine (concatenate_pair_apply_left 2 x y hc _ rfl (ix4 a p ⟨h.val, q⟩ w) fun d => ?_).trans (hx _ rfl)
    match d with
    | ⟨0, _⟩ => rfl
    | ⟨1, _⟩ => rfl
    | ⟨2, _⟩ => rfl
    | ⟨3, _⟩ => rfl
  · refine (concatenate_pair_apply_right 2 x y hc _ rfl rfl (ix4 a p ⟨h.val - b, by omega⟩ w) (fun d hd => ?_) ?_).trans (hy _ ?_)
    · match d with
      | ⟨0, _⟩ => rfl
      | ⟨1, _⟩ => rfl
      | ⟨2, _⟩ => exact absurd rfl hd
      | ⟨3, _⟩ => rfl
    · show h.val - b + b = h.val; omega
    · show h.val - b + b = h.val; omega

/-- Two pieces joined along the columns. -/
theorem join_cols {b c : ℕ} (x : (⟨4, ![4, 192, 224, b]⟩ : Shape).Idx → α) (y : (⟨4, ![4, 192, 224, c]⟩ : Shape).Idx → α)
    (hc : Shape.Concatenates [⟨4, ![4, 192, 224, b]⟩, ⟨4, ![4, 192, 224, c]⟩] S4x192x224x224 3) (a : Fin 4) (p : Fin 192) (h w : Fin 224) (v : α)
    (hx : ∀ i : Fin b, i.val = w.val → x (ix4 a p h i) = v) (hy : ∀ i : Fin c, i.val + b = w.val → y (ix4 a p h i) = v) (hbc : b + c = 224) :
    concatenate S4x192x224x224 3 [⟨⟨4, ![4, 192, 224, b]⟩, x⟩, ⟨⟨4, ![4, 192, 224, c]⟩, y⟩] hc (ix4 a p h w) = v := by
  have hw := w.isLt
  by_cases q : w.val < b
  · refine (concatenate_pair_apply_left 3 x y hc _ rfl (ix4 a p h ⟨w.val, q⟩) fun d => ?_).trans (hx _ rfl)
    match d with
    | ⟨0, _⟩ => rfl
    | ⟨1, _⟩ => rfl
    | ⟨2, _⟩ => rfl
    | ⟨3, _⟩ => rfl
  · refine (concatenate_pair_apply_right 3 x y hc _ rfl rfl (ix4 a p h ⟨w.val - b, by omega⟩) (fun d hd => ?_) ?_).trans (hy _ ?_)
    · match d with
      | ⟨0, _⟩ => rfl
      | ⟨1, _⟩ => rfl
      | ⟨2, _⟩ => rfl
      | ⟨3, _⟩ => exact absurd rfl hd
    · show w.val - b + b = w.val; omega
    · show w.val - b + b = w.val; omega

variable (Z : S4x192x224x224.Idx → α) (a : Fin 4) (p : Fin 192) (h w : Fin 224)

theorem down_apply : down Z (ix4 a p h w) = turned 0 Z a p h w := by
  have hh := h.isLt
  refine join_rows _ _ _ a p h w _ (fun i hi => ?_) (fun i hi => ?_) rfl
  · exact cut_apply 223 0 Z _ a p i w _ _ (by show (h.val + 223) % 224 = 223 + i.val; have := i.isLt; omega) (Nat.zero_add _).symm
  · exact cut_apply 0 0 Z _ a p i w _ _ (by show (h.val + 223) % 224 = 0 + i.val; omega) (Nat.zero_add _).symm

theorem up_apply : up Z (ix4 a p h w) = turned 1 Z a p h w := by
  have hh := h.isLt
  refine join_rows _ _ _ a p h w _ (fun i hi => ?_) (fun i hi => ?_) rfl
  · exact cut_apply 1 0 Z _ a p i w _ _ (by show (h.val + 1) % 224 = 1 + i.val; have := i.isLt; omega) (Nat.zero_add _).symm
  · exact cut_apply 0 0 Z _ a p i w _ _ (by show (h.val + 1) % 224 = 0 + i.val; have := i.isLt; omega) (Nat.zero_add _).symm

theorem right_apply : right Z (ix4 a p h w) = turned 2 Z a p h w := by
  have hw := w.isLt
  refine join_cols _ _ _ a p h w _ (fun i hi => ?_) (fun i hi => ?_) rfl
  · exact cut_apply 0 223 Z _ a p h i _ _ (Nat.zero_add _).symm (by show (w.val + 223) % 224 = 223 + i.val; have := i.isLt; omega)
  · exact cut_apply 0 0 Z _ a p h i _ _ (Nat.zero_add _).symm (by show (w.val + 223) % 224 = 0 + i.val; omega)

theorem left_apply : left Z (ix4 a p h w) = turned 3 Z a p h w := by
  have hw := w.isLt
  refine join_cols _ _ _ a p h w _ (fun i hi => ?_) (fun i hi => ?_) rfl
  · exact cut_apply 0 1 Z _ a p h i _ _ (Nat.zero_add _).symm (by show (w.val + 1) % 224 = 1 + i.val; have := i.isLt; omega)
  · exact cut_apply 0 0 Z _ a p h i _ _ (Nat.zero_add _).symm (by show (w.val + 1) % 224 = 0 + i.val; have := i.isLt; omega)

/-- Four quarters, as a list of pieces. -/
abbrev pieces (Zs : Fin 4 → S4x192x224x224.Idx → α) : List ((s : Shape) × (s.Idx → α)) :=
  [⟨S4x192x224x224, Zs 0⟩, ⟨S4x192x224x224, Zs 1⟩, ⟨S4x192x224x224, Zs 2⟩, ⟨S4x192x224x224, Zs 3⟩]

/-- Four quarters one after the other. -/
def stacked (Zs : Fin 4 → S4x192x224x224.Idx → α) : S4x768x224x224.Idx → α :=
  concatenate S4x768x224x224 1 (pieces Zs) concatenates_S4x192x224x224_S4x192x224x224_S4x192x224x224_S4x192x224x224_S4x768x224x224_d1

/-- The stack read in quarter `q`. -/
theorem stacked_apply (Zs : Fin 4 → S4x192x224x224.Idx → α) (q : Fin 4) (c : Fin 768) (hc : c.val = 192 * q.val + p.val) :
    stacked Zs (ix4 a c h w) = Zs q (ix4 a p h w) := by
  have pick : ∀ (k : ℕ) (hk : k < (pieces Zs).length) (Z : S4x192x224x224.Idx → α), (pieces Zs)[k] = ⟨S4x192x224x224, Z⟩ →
      ((((pieces Zs).take k).map (·.1)).map fun s => if h : s.rank = S4x768x224x224.rank then s.size ((1 : Fin 4).cast h.symm) else 0).sum = 192 * k →
      c.val = 192 * k + p.val → stacked Zs (ix4 a c h w) = Z (ix4 a p h w) := fun k hk Z hZ hs hc =>
    concatenate_apply_piece 1 (pieces Zs) _ (ix4 a c h w) k hk S4x192x224x224 Z hZ rfl (192 * k) hs (ix4 a p h w) (fun d hd => by
      match d with
      | ⟨0, _⟩ => rfl
      | ⟨1, _⟩ => exact absurd rfl hd
      | ⟨2, _⟩ => rfl
      | ⟨3, _⟩ => rfl) hc.symm
  match q with
  | ⟨0, _⟩ => exact pick 0 (show 0 < 4 by decide) _ rfl rfl hc
  | ⟨1, _⟩ => exact pick 1 (show 1 < 4 by decide) _ rfl rfl hc
  | ⟨2, _⟩ => exact pick 2 (show 2 < 4 by decide) _ rfl rfl hc
  | ⟨3, _⟩ => exact pick 3 (show 3 < 4 by decide) _ rfl rfl hc

end Cert.Proof

end
-- ==== Proof.Order.lean ====
module

public import proofs.«01_k».proof.ReferenceIdeal
public import Idealize.ShloMosaic.Lib.SortFacts
public import Idealize.ShloMosaic.Lib.WordCmp
public import Idealize.ShloMosaic.Lib.Routing.Ops

/-
# The argsort

The reference sorts the index words and carries the positions along. Where the words are a permutation `e` of the
channels, the position carried to place `c` is the one whose word is `c`, that is `e.symm c`.
-/

@[expose] public section

noncomputable section

namespace Cert.Proof

open Idealize.ShloMosaic
open Idealize.ShloMosaic.ValueIdx (ix0 ix1 ix2)
open Cert.ReferenceIdeal

/-- Sorting positions by a permutation of the numbers below `n` puts them in the order of its inverse. -/
theorem sortedFrom_perm {n : ℕ} (e : Equiv.Perm (Fin n)) (before : Fin n → Fin n → Bool)
    (hb : ∀ k k', before k k' = decide (e k < e k')) (c : Fin n) : sortedFrom before c = e.symm c := by
  have up : StrictMono fun c => e (sortedFrom before c) := fun i j hij => by
    have ni := sortedFrom_noInversion before before
      (fun a b h => by rw [hb, decide_eq_true_iff] at h; rw [hb, decide_eq_false_iff_not]; exact not_lt_of_gt h)
      (fun _ _ h => h)
      (fun a b c h h' => by
        rw [hb, decide_eq_false_iff_not] at h h' ⊢
        exact not_lt.2 ((not_lt.1 h').trans (not_lt.1 h))) i j hij
    rw [hb, decide_eq_false_iff_not] at ni
    refine lt_of_le_of_ne (not_lt.1 ni) fun q => ?_
    exact absurd (sortedFrom_injective before (e.injective q)) (ne_of_lt hij)
  have all : Set.range (fun c => e (sortedFrom before c)) = Set.range (id : Fin n → Fin n) := by
    rw [Set.range_id, Set.range_eq_univ]
    exact e.surjective.comp (sortedFrom_surjective before)
  have key := congrFun ((StrictMono.range_inj up strictMono_id).1 all) c
  exact (e.eq_symm_apply).2 key

/-- The reference's argsort, read at a place. -/
theorem argsort_apply (A : IVec S768 32) (e : Equiv.Perm (Fin 768)) (hA : ∀ j : Fin 768, A (ix1 j) = BitVec.ofNat 32 (e j).val) (c : Fin 768) :
    (Host.sort2 S768 0 comparator_i32_i32_d0 A (iotaInDim S768 32 0)).2 (ix1 c) = BitVec.ofNat 32 (e.symm c).val := by
  have one : ∀ k : Fin 768, (ix1 c : S768.Idx).along (0 : Fin 1) k = ix1 k := fun k => by
    refine funext fun a => ?_
    obtain rfl : a = 0 := Subsingleton.elim _ _
    exact Function.update_self ..
  have before : ∀ k k' : Fin 768, (comparator_i32_i32_d0 (A (ix1 k), BitVec.ofNat 32 k.val) (A (ix1 k'), BitVec.ofNat 32 k'.val) == 1#1) = decide (e k < e k') := fun k k' => by
    have hk := (e k).isLt
    have hk' := (e k').isLt
    show (IntOp.cmpi .slt (A (ix1 k)) (A (ix1 k')) == 1#1) = _
    rw [hA, hA, WordCmp.cmpi_slt_ofNat (by show (e k).val < 2 ^ 31; omega) (by show (e k').val < 2 ^ 31; omega)]
    by_cases q : (e k).val < (e k').val
    · rw [decide_eq_true (show e k < e k' from q), decide_eq_true q]; rfl
    · rw [decide_eq_false (show ¬ e k < e k' from q), decide_eq_false q]; rfl
  have read : (Host.sort2 S768 0 comparator_i32_i32_d0 A (iotaInDim S768 32 0)).2 (ix1 c)
      = iotaInDim S768 32 0 ((ix1 c : S768.Idx).along (0 : Fin 1) (sortedFrom (fun k k' : Fin 768 =>
          comparator_i32_i32_d0 (A ((ix1 c : S768.Idx).along (0 : Fin 1) k), iotaInDim S768 32 0 ((ix1 c : S768.Idx).along (0 : Fin 1) k))
            (A ((ix1 c : S768.Idx).along (0 : Fin 1) k'), iotaInDim S768 32 0 ((ix1 c : S768.Idx).along (0 : Fin 1) k')) == 1#1) c)) := by
    unfold Host.sort2
    rw [dif_pos (show 0 < S768.rank from Nat.one_pos)]
    rfl
  refine read.trans ((congrArg (fun k : Fin 768 => iotaInDim S768 32 0 ((ix1 c : S768.Idx).along (0 : Fin 1) k))
    (sortedFrom_perm (n := 768) e _ (fun k k' => ?_) c)).trans ?_)
  · rw [one, one]; exact before k k'
  · show iotaInDim S768 32 0 ((ix1 c : S768.Idx).along (0 : Fin 1) (e.symm c)) = _
    rw [one]; rfl

end Cert.Proof

end
-- ==== Proof.Host.lean ====
module

public import proofs.«01_k».proof.Proof.Quarters
public import proofs.«01_k».proof.Proof.Order
public import proofs.«01_k».proof.Proof.Gen.ReferenceIdeal.Run

/-
# What the reference computes

The reference takes the channels by `indices`, rolls each quarter, and takes the stack by the argsort of `indices`. Where
`indices` is a permutation `e`, channel `c` of the result is the channel at place `e.symm c` of the stack, which is
channel `c` of the operand rolled the way the quarter of that place says.
-/

@[expose] public section

set_option maxRecDepth 16384

noncomputable section

namespace Cert.Proof

open Cert.ReferenceIdeal Cert.ReferenceIdeal.Gen
open Idealize.ShloMosaic
open Idealize.ShloMosaic.ValueIdx (ix0 ix1 ix2 ix4)

variable {F : FTy → Type} [FloatOps F]

/-- The conditions for taking a quarter. -/
theorem takesQuarter : Takes 192 where
  spread := bcast_S_S192
  column := bcast_S192_S192x1_0
  spreadColumn := bcast_S_S192x1
  unit := bcast_S1_S1x1_1
  rows := bcast_S1x1_S192x1_0_1
  reduces := reducesTo_S192x1_S192_d1
  one := h_S_
  mask := bcast_S192_S4x192x224x224_1
  spreadStack := bcast_S_S4x192x224x224
  gathers := gather_S4x768x224x224_S192x1_S4x192x224x224_023_1_n_n_1_1_41224224_wf

/-- The conditions for taking all channels. -/
theorem takesAll : Takes 768 where
  spread := bcast_S_S768
  column := bcast_S768_S768x1_0
  spreadColumn := bcast_S_S768x1
  unit := bcast_S1_S1x1_1
  rows := bcast_S1x1_S768x1_0_1
  reduces := reducesTo_S768x1_S768_d1
  one := h_S_
  mask := bcast_S768_S4x768x224x224_1
  spreadStack := bcast_S_S4x768x224x224
  gathers := gather_S4x768x224x224_S768x1_S4x768x224x224_023_1_n_n_1_1_41224224_wf

/-- What a take puts where a word is out of range. -/
def filler : S_.Idx → Elt F .f32 := constant S_ .f32 0x7FC00000#32

/-- The channels that the words from place `o` on name. -/
def quarter (o : ℕ) (ho : S768.Slices ![o] S192) (X : S4x768x224x224.Idx → Elt F .f32) (A : IVec S768 32) : S4x192x224x224.Idx → Elt F .f32 :=
  take takesQuarter filler X (extractStridedSlice S192 ![o] A ho)

/-- The four rolled quarters. -/
def rolls (X : S4x768x224x224.Idx → Elt F .f32) (A : IVec S768 32) : Fin 4 → S4x192x224x224.Idx → Elt F .f32 :=
  ![down (quarter 0 slices_S768_S192_0 X A), up (quarter 192 slices_S768_S192_192 X A),
    right (quarter 384 slices_S768_S192_384 X A), left (quarter 576 slices_S768_S192_576 X A)]

/-- The reference's result as a function of its arguments. -/
def hostResult (X : S4x768x224x224.Idx → Elt F .f32) (A : IVec S768 32) : S4x768x224x224.Idx → Elt F .f32 :=
  take takesAll filler (stacked (rolls X A)) (Host.sort2 S768 0 comparator_i32_i32_d0 A (iotaInDim S768 32 0)).2

set_option maxHeartbeats 4000000 in
/-- The run's result is that function of the arguments. -/
theorem result_eq (m : (ℓ : Loc nD τ sig) → Buf (Elt F) ℓ) (c : Dev nD) :
    Value.res_main_v14 m c = hostResult (m ((c.tc : Thread nD τ).loc main_arg0)) (m ((c.tc : Thread nD τ).loc main_arg1)) := by
  unfold Value.res_main_v14
  rfl

variable (X : S4x768x224x224.Idx → Elt F .f32) (A : IVec S768 32) (e : Equiv.Perm (Fin 768)) (hA : ∀ j : Fin 768, A (ix1 j) = BitVec.ofNat 32 (e j).val)
include hA

/-- A quarter read at an index. -/
theorem quarter_apply (q : ℕ) (hq : q < 4) (ho : S768.Slices ![192 * q] S192) (a : Fin 4) (p : Fin 192) (h w : Fin 224) :
    quarter (192 * q) ho X A (ix4 a p h w) = X (ix4 a (e ⟨192 * q + p.val, by omega⟩) h w) :=
  take_apply takesQuarter filler X _ (fun p => e ⟨192 * q + p.val, by omega⟩) (fun p => by
    rw [← hA]; exact Routing.slice1 (192 * q) A ho p (by omega)) a p h w

/-- A rolled quarter read at an index. -/
theorem rolls_apply (q : Fin 4) (a : Fin 4) (p : Fin 192) (h w : Fin 224) :
    rolls X A q (ix4 a p h w) = X (ix4 a (e ⟨192 * q.val + p.val, by omega⟩) ⟨Roll.srcRow q.val h.val, Roll.srcRow_lt _ h⟩ ⟨Roll.srcCol q.val w.val, Roll.srcCol_lt _ w⟩) := by
  match q with
  | ⟨0, _⟩ => exact (down_apply _ a p h w).trans (quarter_apply X A e hA 0 (by decide) slices_S768_S192_0 a p _ _)
  | ⟨1, _⟩ => exact (up_apply _ a p h w).trans (quarter_apply X A e hA 1 (by decide) slices_S768_S192_192 a p _ _)
  | ⟨2, _⟩ => exact (right_apply _ a p h w).trans (quarter_apply X A e hA 2 (by decide) slices_S768_S192_384 a p _ _)
  | ⟨3, _⟩ => exact (left_apply _ a p h w).trans (quarter_apply X A e hA 3 (by decide) slices_S768_S192_576 a p _ _)

/-- The reference's result, read at an index. -/
theorem hostResult_apply (a : Fin 4) (c : Fin 768) (h w : Fin 224) : hostResult X A (ix4 a c h w) = Roll.spec e.symm X a c h w := by
  have hc := (e.symm c).isLt
  refine (take_apply takesAll filler _ _ e.symm (argsort_apply A e hA) a c h w).trans ?_
  refine (stacked_apply a ⟨(e.symm c).val % 192, by omega⟩ h w (rolls X A) ⟨(e.symm c).val / 192, by omega⟩ (e.symm c) (by show _ = 192 * ((e.symm c).val / 192) + (e.symm c).val % 192; omega)).trans ?_
  refine (rolls_apply X A e hA _ a _ h w).trans ?_
  have place : e ⟨192 * ((e.symm c).val / 192) + (e.symm c).val % 192, by omega⟩ = c :=
    (congrArg e (Fin.ext (by show 192 * ((e.symm c).val / 192) + (e.symm c).val % 192 = (e.symm c).val; omega))).trans (e.apply_symm_apply c)
  unfold Roll.spec
  exact congrArg (fun d : Fin 768 => X (ix4 a d _ _)) place

end Cert.Proof

end
-- ==== Proof.Table.lean ====
module

public import proofs.«01_k».proof.Proof.Run
public import Idealize.ShloMosaic.Lib.Routing.OpsSet
public import Idealize.ShloMosaic.Lib.Routing.Words
public import Idealize.ShloMosaic.Lib.Routing.OpsPair

/-
# The label table

Before the launch the host writes `j / 192` to a table at `indices j`, for every `j`. Where `indices` is a permutation `e`
the table holds at channel `c` the quarter of the place `e.symm c`.
-/

@[expose] public section

set_option maxRecDepth 16384

noncomputable section

namespace Cert.Proof.Roll

open Cert.KernelIdeal Cert.KernelIdeal.Gen
open Idealize.ShloMosaic
open Idealize.ShloMosaic.ValueIdx (ix0 ix1 ix2)

variable {F : FTy → Type} [FloatOps F]

/-- The index words as the host corrects them: a negative one counts from the end. -/
def corrected (A : S768.Idx → Elt F .i32) : S768.Idx → Elt F .i32 :=
  select (cmpi .slt A (broadcastInDim S768 ![] bcast_S_S768 (constantI S_ 32 0#32)))
    (addi A (broadcastInDim S768 ![] bcast_S_S768 (constantI S_ 32 768#32))) A

/-- The table from the index words. -/
def tableOf (A : S768.Idx → Elt F .i32) : S768.Idx → Elt F .i32 :=
  Host.scatter scatter_S768_S768x1_S768_n_0_0_1 (fun _ b => b) (broadcastInDim S768 ![] bcast_S_S768 (constantI S_ 32 0#32))
    (broadcastInDim S768x1 ![0] bcast_S768_S768x1_0 (corrected A))
    (Routing.pyDiv bcast_S_S768 (iotaInDim S768 32 0) (constantI S_ 32 192#32))

variable (m : (ℓ : Loc nD τ sig) → Buf (Elt F) ℓ)

set_option maxHeartbeats 4000000 in
/-- What the host operations leave in the table. -/
theorem labels_eq (c : Dev nD) : labels m c = tableOf (m ((c.tc : Thread nD τ).loc main_arg1)) := by
  unfold labels
  rw [V_eq]
  simp only [hostLines, List.flatten, List.append, hostOps0, hostOps0_1, hostOps0_2, StableHlo.TRef.binary, StableHlo.TRef.nullary, StableHlo.TRef.ternary, StableHlo.TRef.unary,
    StableHlo.TRef.toBuf, StableHlo.TRef.ofBuf, cast_eq]
  after_results_simp <;> rfl

/-- The table at channel `c`, for index words that are a permutation. -/
theorem tableOf_apply (A : S768.Idx → Elt F .i32) (e : Equiv.Perm (Fin 768)) (hA : ∀ j : Fin 768, A (ix1 j) = BitVec.ofNat 32 (e j).val)
    (c : Fin 768) : tableOf A (ix1 c) = BitVec.ofNat 32 ((e.symm c).val / 192) := by
  have small : ∀ j : Fin 768, (BitVec.ofNat 32 j.val).toNat = j.val := fun j => by
    have := j.isLt; rw [BitVec.toNat_ofNat]; omega
  have word : ∀ j : Fin 768, broadcastInDim S768x1 ![0] bcast_S768_S768x1_0 (corrected A) (ix2 j (0 : Fin 1)) = BitVec.ofNat 32 (e j).val := fun j => by
    have hj := (e j).isLt
    rw [Routing.bcCol bcast_S768_S768x1_0]
    unfold corrected
    rw [WordCmp.select_at, WordCmp.cmpi_at, Routing.bc0 bcast_S_S768, WordCmp.constantI_at, Routing.wrap_of_lt _ _ (by rw [hA, small]; show (e j).val < 2 ^ 31; omega), hA]
  have signed : ∀ j : Fin 768, (BitVec.ofNat 32 j.val).toInt = (j.val : Int) := fun j => by
    have := j.isLt
    exact StableHlo.Predicate.toInt_ofNat_small _ (by omega)
  refine (Routing.scatter_set_signed scatter_S768_S768x1_S768_n_0_0_1 rfl rfl rfl _ _ _ c _ fun j hj => ?_).1 ⟨e.symm c, ?_⟩
  · have hc : j = e.symm c := by
      rw [word, signed] at hj
      rw [← e.symm_apply_apply j]; exact congrArg e.symm (Fin.ext (by exact_mod_cast hj))
    subst hc
    exact Routing.pyDiv_ap bcast_S_S768 _ _ _ (Routing.iota1_ap _) rfl (by have := (e.symm c).isLt; omega) (by decide) (by decide)
  · rw [word, signed, e.apply_symm_apply]

end Cert.Proof.Roll

end
-- ==== Proof.Places.lean ====
module

public import proofs.«01_k».proof.Pre_permutation
public import Idealize.ShloMosaic.Lib.ReduceAll
public import Idealize.ShloMosaic.Lib.WordCmp
public import Idealize.ShloMosaic.Lib.Routing.Ops

/-
# What the precondition says

The predicate asks that every index word is at least 0 and below 768, and that no two of them are equal. Read back, the
words are a permutation of the channels.
-/

@[expose] public section

noncomputable section

namespace Cert.Proof

open Idealize.ShloMosaic
open Idealize.ShloMosaic.ValueIdx (ix0 ix1 ix2)
open Cert.Pre_permutation Cert.Pre_permutation.Facts

theorem bit_ofBool {b : Bool} : BitVec.ofBool b = 1#1 ↔ b = true := by cases b <;> decide

theorem bit_or : ∀ x y : BitVec 1, IntOp.ori x y = 1#1 → x = 1#1 ∨ y = 1#1 := by decide

/-- A word that is not negative and below 768 as a signed number is below 768 as a natural. -/
theorem word_range (x : BitVec 32) (h0 : IntOp.cmpi .sge x 0#32 = 1#1) (h1 : IntOp.cmpi .slt x 768#32 = 1#1) : x.toNat < 768 := by
  rw [WordCmp.cmpi_sge_zero, bit_ofBool, decide_eq_true_iff] at h0
  rw [WordCmp.cmpi_slt_of_lt h0 (by decide), bit_ofBool, decide_eq_true_iff] at h1
  exact h1

/-- The index words of arguments that meet the precondition are a permutation of the channels. -/
theorem exists_perm {F : FTy → Type} [FloatOps F] [Facts] (X : FVec F S4x768x224x224 .f32) (A : IVec S768 32)
    (h : fn (F := F) X A = fun _ => 1#1) : ∃ e : Equiv.Perm (Fin 768), ∀ j : Fin 768, A (ix1 j) = BitVec.ofNat 32 (e j).val := by
  have h0 := congrFun h ix0
  dsimp only [fn] at h0
  rw [WordCmp.andi_at] at h0
  obtain ⟨hr, hd⟩ := IntOp.andi_eq_one.1 h0
  have : Subsingleton S_.Idx := ⟨fun a b => funext fun k => k.elim0⟩
  have lt : ∀ j : Fin 768, (A (ix1 j)).toNat < 768 := fun j => by
    have hj := Host.reduce_andi_all _ _ _ _ _ hr (ix1 j)
    rw [WordCmp.andi_at] at hj
    obtain ⟨a, b⟩ := IntOp.andi_eq_one.1 hj
    rw [WordCmp.cmpi_at, Routing.bc0 bcast_S_S768, WordCmp.constantI_at] at a b
    exact word_range _ a b
  have inj : ∀ i j : Fin 768, A (ix1 i) = A (ix1 j) → i = j := fun i j hij => by
    have hj := Host.reduce_andi_all _ _ _ _ _ hd (ix2 i j)
    rw [show ∀ x y : IVec S768x768 1, ori x y (ix2 i j) = IntOp.ori (x (ix2 i j)) (y (ix2 i j)) from fun _ _ => rfl, WordCmp.cmpi_at, WordCmp.cmpi_at,
      Routing.bcRows bcast_S768_S768x1_0, Routing.bcRows bcast_S768_S768x1_0, Routing.bcCols bcast_S768_S1x768_1, Routing.bcCols bcast_S768_S1x768_1] at hj
    rcases bit_or _ _ hj with q | q
    · rw [WordCmp.cmpi_ne_eq, bit_ofBool, decide_eq_true_iff] at q
      exact absurd hij q
    · have hi := i.isLt
      have hj := j.isLt
      rw [show ∀ k : Fin 768, iotaInDim S768 32 0 (ix1 k) = BitVec.ofNat 32 k.val from fun _ => rfl,
        show ∀ k : Fin 768, iotaInDim S768 32 0 (ix1 k) = BitVec.ofNat 32 k.val from fun _ => rfl,
        WordCmp.cmpi_eq_ofNat (by omega) (by omega), bit_ofBool, decide_eq_true_iff] at q
      exact Fin.ext q
  let f : Fin 768 → Fin 768 := fun j => ⟨(A (ix1 j)).toNat, lt j⟩
  have hf : Function.Injective f := fun i j hij => inj i j (BitVec.eq_of_toNat_eq (congrArg (fun k : Fin 768 => k.val) hij))
  refine ⟨Equiv.ofBijective f (Finite.injective_iff_bijective.1 hf), fun j => ?_⟩
  show A (ix1 j) = BitVec.ofNat 32 (A (ix1 j)).toNat
  rw [BitVec.ofNat_toNat, BitVec.setWidth_eq]

end Cert.Proof

end
-- ==== Proof.Values.lean ====
module

public import proofs.«01_k».proof.Proof.Host
public import proofs.«01_k».proof.Proof.Table
public import proofs.«01_k».proof.Proof.Places
public import proofs.«01_k».proof.Proof.Frames

/-
# The values

From arguments whose index words are a permutation, the kernel's result and the reference's are the same tensor.
-/

@[expose] public section

noncomputable section

namespace Cert.Proof

open Idealize.ShloMosaic Idealize.SL.Sem
open Idealize.ShloMosaic.ValueIdx (ix1 ix4)

/-- The two results as functions of the arguments. -/
theorem results_agree {F : FTy → Type} [FloatOps F] (X : Cert.KernelIdeal.S4x768x224x224.Idx → Elt F .f32) (A : Cert.KernelIdeal.S768.Idx → Elt F .i32)
    (e : Equiv.Perm (Fin 768)) (hA : ∀ j : Fin 768, A (ix1 j) = BitVec.ofNat 32 (e j).val) :
    hostResult (F := F) X A = Roll.target (F := F) (Roll.tableOf A) X := by
  funext i
  rw [ValueIdx.eq_ix4 i]
  exact (hostResult_apply X A e hA _ _ _ _).trans (Roll.target_spec e.symm _ X (Roll.tableOf_apply A e hA) _ _ _ _).symm

/-- Kernel and reference, at the ideal floats, end with equal results. -/
theorem algebraic : Cert.algebraic_KernelIdeal_ReferenceIdeal_pre_permutation (hKernelIdeal := Cert.KernelIdeal.Gen.facts)
    (hReferenceIdeal := Cert.ReferenceIdeal.Gen.facts) (hPre_permutation := Cert.Pre_permutation.Gen.facts) := fun m g m' g' hpre same => by
  have one : ∀ c : Dev Cert.KernelIdeal.nD, c = 0 := fun c => Subsingleton.elim _ _
  obtain ⟨e, he⟩ := @exists_perm Ideal _ Cert.Pre_permutation.Gen.facts _ _ (hpre 0)
  refine ⟨fun _ => Roll.target (Roll.labels m 0) (m (((0 : Dev Cert.KernelIdeal.nD).tc : Thread Cert.KernelIdeal.nD Cert.KernelIdeal.τ).loc Cert.KernelIdeal.main_arg0)), ?_, ?_⟩
  · refine (θ_run _ _ _).mono (fun r h c => ⟨?_, (h.1 c).2⟩) (Roll.run (F := Ideal) m g)
    rw [(h.1 c).1, one c]
  · refine (θ_run _ _ _).mono (fun r h c => ⟨?_, (h c).2⟩) (Cert.ReferenceIdeal.Value.run (F := Ideal) m' g')
    obtain rfl := one c
    refine ((h 0).1.trans (result_eq m' 0)).trans ?_
    rw [Roll.labels_eq, (same 0).1, (same 0).2]
    exact results_agree _ _ e he

end Cert.Proof

end
-- ==== Proof.lean ====
/- The claims of this certificate, put together from the modules under Proof/: the kernel's run (Run.lean), the reference's
   run (generated) and, for the values, their common closed form `Roll.spec` (Turn.lean, Table.lean, Host.lean). -/
module

public import proofs.«01_k».proof.Proof.Frames
public import proofs.«01_k».proof.Proof.Values

@[expose] public section

noncomputable section

namespace Cert.Proof

theorem claim : Cert.Claim :=
  ⟨Cert.Kernel.Gen.facts, Cert.KernelIdeal.Gen.facts, Cert.ReferenceIdeal.Gen.facts, Cert.Pre_permutation.Gen.facts,
    frame_kernel, frame_kernelIdeal, fun m g _ => frame_kernelIdeal m g trivial,
    frame_reference, fun m g _ => frame_reference m g trivial, trivial, algebraic⟩

end Cert.Proof

end
